-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_weights [hPre_finite_weights : Cert.Pre_finite_weights.Facts] (m : (ℓ : Loc Cert.KernelIdeal.nD Cert.KernelIdeal.τ Cert.KernelIdeal.sig) → Buf (Elt Ideal) ℓ) : Prop :=
  ∀ c : Dev Cert.KernelIdeal.nD,
    (Cert.Pre_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_weights [hPre_finite_weights : Cert.Pre_finite_weights.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_weights [hKernelIdeal : Cert.KernelIdeal.Facts] [hPre_finite_weights : Cert.Pre_finite_weights.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_weights m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_weights [hReferenceIdeal : Cert.ReferenceIdeal.Facts] [hPre_finite_weights : Cert.Pre_finite_weights.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_weights m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def preserves_Kernel_KernelIdeal : Prop :=
  True

def algebraic_KernelIdeal_ReferenceIdeal_pre_finite_weights [hKernelIdeal : Cert.KernelIdeal.Facts] [hReferenceIdeal : Cert.ReferenceIdeal.Facts] [hPre_finite_weights : Cert.Pre_finite_weights.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_weights m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v151) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v18) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite_weights : Cert.Pre_finite_weights.Facts),
    quiescent_Kernel (hKernel := hKernel)
    ∧ quiescent_KernelIdeal (hKernelIdeal := hKernelIdeal)
    ∧ quiescent_KernelIdeal_pre_finite_weights (hKernelIdeal := hKernelIdeal) (hPre_finite_weights := hPre_finite_weights)
    ∧ quiescent_ReferenceIdeal (hReferenceIdeal := hReferenceIdeal)
    ∧ quiescent_ReferenceIdeal_pre_finite_weights (hReferenceIdeal := hReferenceIdeal) (hPre_finite_weights := hPre_finite_weights)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_finite_weights (hKernelIdeal := hKernelIdeal) (hReferenceIdeal := hReferenceIdeal) (hPre_finite_weights := hPre_finite_weights)
    ∧ preserves_Kernel2_Kernel2Ideal
    ∧ algebraic_Kernel2Ideal_Reference2Ideal (hKernel2Ideal := hKernel2Ideal) (hReference2Ideal := hReference2Ideal)
-- ==== Pre_finite_weights.lean ====
abbrev S65536x1024 : Shape := ⟨2, ![65536, 1024]⟩
abbrev S1024 : Shape := ⟨1, ![1024]⟩
abbrev S1024x8 : Shape := ⟨2, ![1024, 8]⟩
abbrev S8x1024x3584 : Shape := ⟨3, ![8, 1024, 3584]⟩
abbrev S8x3584x1024 : Shape := ⟨3, ![8, 3584, 1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x8 : S_.BroadcastsInDim S1024x8 (![] : Fin 0 → Fin S1024x8.rank)
  reducesTo_S1024x8_S_d0_1 : S1024x8.ReducesTo [0, 1] S_

variable [Facts]

def fn {F : FTy → Type} [FloatOps F] (main_arg0 : FVec F S65536x1024 .f32) (main_arg1 : FVec F S1024 .f32) (main_arg2 : FVec F S1024x8 .f32) (main_arg3 : FVec F S8x1024x3584 .f32) (main_arg4 : FVec F S8x1024x3584 .f32) (main_arg5 : FVec F S8x3584x1024 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x8 .f32 := Host.absf main_arg2
  let main_cst_0 : FVec F S_ .f32 := constant S_ .f32 0x7F800000#32
  let main_v5 : FVec F S1024x8 .f32 := broadcastInDim S1024x8 ![] bcast_S_S1024x8 main_cst_0
  let main_v6 : IVec S1024x8 1 := cmpf .olt main_v4 main_v5
  let main_c_1 : IVec S_ 1 := constantI S_ 1 1#1
  let main_v7 : IVec S_ 1 := (fun x v => Host.reduce IntOp.andi x v reducesTo_S1024x8_S_d0_1 h_S_) main_v6 main_c_1
  let main_v8 : IVec S_ 1 := andi main_v3 main_v7
  main_v8
-- ==== Kernel.lean ====
abbrev S65536x1024 : Shape := ⟨2, ![65536, 1024]⟩
abbrev S1024 : Shape := ⟨1, ![1024]⟩
abbrev S1024x8 : Shape := ⟨2, ![1024, 8]⟩
abbrev S8x1024x3584 : Shape := ⟨3, ![8, 1024, 3584]⟩
abbrev S8x3584x1024 : Shape := ⟨3, ![8, 3584, 1024]⟩
abbrev S_ : Shape := ⟨0, ![]⟩
abbrev S1024x128 : Shape := ⟨2, ![1024, 128]⟩
abbrev S1x1024 : Shape := ⟨2, ![1, 1024]⟩
abbrev S65536x128 : Shape := ⟨2, ![65536, 128]⟩
abbrev S64x8x1024 : Shape := ⟨3, ![64, 8, 1024]⟩
abbrev S64x1x128 : Shape := ⟨3, ![64, 1, 128]⟩
abbrev S1024x1024 : Shape := ⟨2, ![1024, 1024]⟩
abbrev S1x8x1024 : Shape := ⟨3, ![1, 8, 1024]⟩
abbrev S1x1x128 : Shape := ⟨3, ![1, 1, 128]⟩
abbrev S1024x1 : Shape := ⟨2, ![1024, 1]⟩
abbrev S128x128 : Shape := ⟨2, ![128, 128]⟩
abbrev S1x128 : Shape := ⟨2, ![1, 128]⟩
abbrev S128 : Shape := ⟨1, ![128]⟩
abbrev S128x1024 : Shape := ⟨2, ![128, 1024]⟩
abbrev S8x1024 : Shape := ⟨2, ![8, 1024]⟩
abbrev S64x1x8 : Shape := ⟨3, ![64, 1, 8]⟩
abbrev S64x8 : Shape := ⟨2, ![64, 8]⟩
abbrev S512 : Shape := ⟨1, ![512]⟩
abbrev S1x1024x1792 : Shape := ⟨3, ![1, 1024, 1792]⟩
abbrev S1x1792x1024 : Shape := ⟨3, ![1, 1792, 1024]⟩
abbrev S1 : Shape := ⟨1, ![1]⟩
abbrev S1x1x1024 : Shape := ⟨3, ![1, 1, 1024]⟩
abbrev S256x1024 : Shape := ⟨2, ![256, 1024]⟩
abbrev S1024x1792 : Shape := ⟨2, ![1024, 1792]⟩
abbrev S256x1792 : Shape := ⟨2, ![256, 1792]⟩
abbrev S1792x1024 : Shape := ⟨2, ![1792, 1024]⟩
abbrev S288x1024 : Shape := ⟨2, ![288, 1024]⟩
abbrev S288x1792 : Shape := ⟨2, ![288, 1792]⟩
abbrev S320x1024 : Shape := ⟨2, ![320, 1024]⟩
abbrev S320x1792 : Shape := ⟨2, ![320, 1792]⟩
abbrev S384x1024 : Shape := ⟨2, ![384, 1024]⟩
abbrev S384x1792 : Shape := ⟨2, ![384, 1792]⟩
abbrev S512x1024 : Shape := ⟨2, ![512, 1024]⟩
abbrev S512x1792 : Shape := ⟨2, ![512, 1792]⟩

abbrev nBuf : Space → Nat
  | .hbm => 21
  | .vmem => 29
  | .smem => 1
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x8, .f32⟩
  | .hbm, ⟨3, _⟩ => ⟨S8x1024x3584, .f32⟩
  | .hbm, ⟨4, _⟩ => ⟨S8x1024x3584, .f32⟩
  | .hbm, ⟨5, _⟩ => ⟨S8x3584x1024, .f32⟩
  | .hbm, ⟨6, _⟩ => ⟨S_, .i32⟩
  | .hbm, ⟨7, _⟩ => ⟨S_, .f32⟩
  | .hbm, ⟨8, _⟩ => ⟨S1024x128, .f32⟩
  | .hbm, ⟨9, _⟩ => ⟨S8x1024x3584, .bf16⟩
  | .hbm, ⟨10, _⟩ => ⟨S8x1024x3584, .bf16⟩
  | .hbm, ⟨11, _⟩ => ⟨S8x3584x1024, .bf16⟩
  | .hbm, ⟨12, _⟩ => ⟨S1x1024, .f32⟩
  | .hbm, ⟨13, _⟩ => ⟨S65536x1024, .bf16⟩
  | .hbm, ⟨14, _⟩ => ⟨S65536x128, .f32⟩
  | .hbm, ⟨15, _⟩ => ⟨S64x8x1024, .f32⟩
  | .hbm, ⟨16, _⟩ => ⟨S64x1x128, .f32⟩
  | .hbm, ⟨17, _⟩ => ⟨S64x1x8, .f32⟩
  | .hbm, ⟨18, _⟩ => ⟨S64x8, .f32⟩
  | .hbm, ⟨19, _⟩ => ⟨S64x8, .i32⟩
  | .hbm, ⟨20, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x128, .f32⟩
  | .local _ .vmem, ⟨4, _⟩ => ⟨S1024x1024, .bf16⟩
  | .local _ .vmem, ⟨5, _⟩ => ⟨S1024x1024, .bf16⟩
  | .local _ .vmem, ⟨6, _⟩ => ⟨S1024x128, .f32⟩
  | .local _ .vmem, ⟨7, _⟩ => ⟨S1024x128, .f32⟩
  | .local _ .vmem, ⟨8, _⟩ => ⟨S1x8x1024, .f32⟩
  | .local _ .vmem, ⟨9, _⟩ => ⟨S1x8x1024, .f32⟩
  | .local _ .vmem, ⟨10, _⟩ => ⟨S1x1x128, .f32⟩
  | .local _ .vmem, ⟨11, _⟩ => ⟨S1x1x128, .f32⟩
  | .local _ .vmem, ⟨12, _⟩ => ⟨S1024x1024, .bf16⟩
  | .local _ .vmem, ⟨13, _⟩ => ⟨S1024x1024, .bf16⟩
  | .local _ .vmem, ⟨14, _⟩ => ⟨S1024x128, .f32⟩
  | .local _ .vmem, ⟨15, _⟩ => ⟨S1024x128, .f32⟩
  | .local _ .vmem, ⟨16, _⟩ => ⟨S1x8x1024, .f32⟩
  | .local _ .vmem, ⟨17, _⟩ => ⟨S1x8x1024, .f32⟩
  | .local _ .vmem, ⟨18, _⟩ => ⟨S1024x1024, .f32⟩
  | .local _ .vmem, ⟨19, _⟩ => ⟨S1024x1024, .f32⟩
  | .local _ .vmem, ⟨20, _⟩ => ⟨S1x1024x1792, .bf16⟩
  | .local _ .vmem, ⟨21, _⟩ => ⟨S1x1024x1792, .bf16⟩
  | .local _ .vmem, ⟨22, _⟩ => ⟨S1x1024x1792, .bf16⟩
  | .local _ .vmem, ⟨23, _⟩ => ⟨S1x1024x1792, .bf16⟩
  | .local _ .vmem, ⟨24, _⟩ => ⟨S1x1792x1024, .bf16⟩
  | .local _ .vmem, ⟨25, _⟩ => ⟨S1x1792x1024, .bf16⟩
  | .local _ .vmem, ⟨26, _⟩ => ⟨S1024x1024, .f32⟩
  | .local _ .vmem, ⟨27, _⟩ => ⟨S1024x1024, .bf16⟩
  | .local _ .vmem, ⟨28, _⟩ => ⟨S1024x1024, .f32⟩
  | .local _ .smem, ⟨0, _⟩ => ⟨S512, .i32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v10 : Ref sig .tc := ⟨.hbm, 20, rfl⟩
abbrev main_v9 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg3_1 : Ref sig .tc := ⟨.vmem, 19, rfl⟩
abbrev cc1_stg4_0 : Ref sig .tc := ⟨.vmem, 20, rfl⟩
abbrev cc1_stg4_1 : Ref sig .tc := ⟨.vmem, 21, rfl⟩
abbrev cc1_stg5_0 : Ref sig .tc := ⟨.vmem, 22, rfl⟩
abbrev cc1_stg5_1 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_scratch0 : Ref sig .tc := ⟨.vmem, 27, rfl⟩
abbrev cc1_scratch1 : Ref sig .tc := ⟨.vmem, 28, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨3, ![64, 8, 2], ![false, false, false]⟩

abbrev pre1 : Pipeline.Prefetch sig := ⟨1, ![main_v9.idx], fun | 0 => main_v9.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let c8_i32 : BitVec 32 := 8#32
  let v5 : BitVec 32 := Scalar.muli arg0 c8_i32
  let arg1 : BitVec 32 := BitVec.ofNat 32 (i 1).val
  let v6 : BitVec 32 := Scalar.addi v5 arg1
  let v7 : Index := Scalar.indexCast v6
  ![v7.toNat]
def k1_cond3 (i : grid1.Coords) : BitVec 1 :=
  let arg2 : BitVec 32 := BitVec.ofNat 32 (i 2).val
  let c0_i32_14 : BitVec 32 := 0#32
  let v39 : BitVec 1 := Scalar.cmpi .eq arg2 c0_i32_14
  let v40 : BitVec 32 := Scalar.extui v39
  let c0_i32_15 : BitVec 32 := 0#32
  let v41 : BitVec 1 := Scalar.cmpi .ne v40 c0_i32_15
  v41

def k1_off2 (i : grid1.Coords) : Fin 3 → Nat :=
  let c0_33 : Index := 0#32
  let arg1 : BitVec 32 := BitVec.ofNat 32 (i 1).val
  let v65 : Index := Scalar.indexCast arg1
  let c0_34 : Index := 0#32
  ![0, v65.toNat, 0]
def k1_cond6 (i : grid1.Coords) : BitVec 1 :=
  let arg2 : BitVec 32 := BitVec.ofNat 32 (i 2).val
  let c1_i32 : BitVec 32 := 1#32
  let v62 : BitVec 1 := Scalar.cmpi .eq arg2 c1_i32
  let v63 : BitVec 32 := Scalar.extui v62
  let c0_i32_32 : BitVec 32 := 0#32
  let v64 : BitVec 1 := Scalar.cmpi .ne v63 c0_i32_32
  v64

def k1_off3 (i : grid1.Coords) : Fin 3 → Nat :=
  let c0_39 : Index := 0#32
  let arg1 : BitVec 32 := BitVec.ofNat 32 (i 1).val
  let v76 : Index := Scalar.indexCast arg1
  let c0_40 : Index := 0#32
  ![0, v76.toNat, 0]
def k1_cond8 (i : grid1.Coords) : BitVec 1 :=
  let arg2 : BitVec 32 := BitVec.ofNat 32 (i 2).val
  let c0_i32_14 : BitVec 32 := 0#32
  let v39 : BitVec 1 := Scalar.cmpi .eq arg2 c0_i32_14
  let v40 : BitVec 32 := Scalar.extui v39
  let c0_i32_15 : BitVec 32 := 0#32
  let v41 : BitVec 1 := Scalar.cmpi .ne v40 c0_i32_15
  v41

def k1_off4 (i : grid1.Coords) : Fin 3 → Nat :=
  let c0_33 : Index := 0#32
  let arg1 : BitVec 32 := BitVec.ofNat 32 (i 1).val
  let v65 : Index := Scalar.indexCast arg1
  let c0_34 : Index := 0#32
  ![0, v65.toNat, 0]
def k1_cond11 (i : grid1.Coords) : BitVec 1 :=
  let arg2 : BitVec 32 := BitVec.ofNat 32 (i 2).val
  let c1_i32 : BitVec 32 := 1#32
  let v62 : BitVec 1 := Scalar.cmpi .eq arg2 c1_i32
  let v63 : BitVec 32 := Scalar.extui v62
  let c0_i32_32 : BitVec 32 := 0#32
  let v64 : BitVec 1 := Scalar.cmpi .ne v63 c0_i32_32
  v64

def k1_off5 (i : grid1.Coords) : Fin 3 → Nat :=
  let c0_39 : Index := 0#32
  let arg1 : BitVec 32 := BitVec.ofNat 32 (i 1).val
  let v76 : Index := Scalar.indexCast arg1
  let c0_40 : Index := 0#32
  ![0, v76.toNat, 0]
def k1_cond13 (i : grid1.Coords) : BitVec 1 :=
  let arg2 : BitVec 32 := BitVec.ofNat 32 (i 2).val
  let c0_i32_14 : BitVec 32 := 0#32
  let v39 : BitVec 1 := Scalar.cmpi .eq arg2 c0_i32_14
  let v40 : BitVec 32 := Scalar.extui v39
  let c0_i32_15 : BitVec 32 := 0#32
  let v41 : BitVec 1 := Scalar.cmpi .ne v40 c0_i32_15
  v41

def k1_off6 (i : grid1.Coords) : Fin 3 → Nat :=
  let c0_33 : Index := 0#32
  let arg1 : BitVec 32 := BitVec.ofNat 32 (i 1).val
  let v65 : Index := Scalar.indexCast arg1
  let c0_34 : Index := 0#32
  ![0, v65.toNat, 0]
def k1_cond16 (i : grid1.Coords) : BitVec 1 :=
  let arg2 : BitVec 32 := BitVec.ofNat 32 (i 2).val
  let c1_i32 : BitVec 32 := 1#32
  let v62 : BitVec 1 := Scalar.cmpi .eq arg2 c1_i32
  let v63 : BitVec 32 := Scalar.extui v62
  let c0_i32_32 : BitVec 32 := 0#32
  let v64 : BitVec 1 := Scalar.cmpi .ne v63 c0_i32_32
  v64

def k1_off7 (i : grid1.Coords) : Fin 3 → Nat :=
  let c0_39 : Index := 0#32
  let arg1 : BitVec 32 := BitVec.ofNat 32 (i 1).val
  let v76 : Index := Scalar.indexCast arg1
  let c0_40 : Index := 0#32
  ![0, v76.toNat, 0]
def k1_cond18 (i : grid1.Coords) : BitVec 1 :=
  let arg2 : BitVec 32 := BitVec.ofNat 32 (i 2).val
  let c0_i32_14 : BitVec 32 := 0#32
  let v39 : BitVec 1 := Scalar.cmpi .eq arg2 c0_i32_14
  let v40 : BitVec 32 := Scalar.extui v39
  let c0_i32_15 : BitVec 32 := 0#32
  let v41 : BitVec 1 := Scalar.cmpi .ne v40 c0_i32_15
  v41

def k1_off8 (i : grid1.Coords) : Fin 3 → Nat :=
  let c0_33 : Index := 0#32
  let arg1 : BitVec 32 := BitVec.ofNat 32 (i 1).val
  let v65 : Index := Scalar.indexCast arg1
  let c0_34 : Index := 0#32
  ![0, v65.toNat, 0]
def k1_cond21 (i : grid1.Coords) : BitVec 1 :=
  let arg2 : BitVec 32 := BitVec.ofNat 32 (i 2).val
  let c1_i32 : BitVec 32 := 1#32
  let v62 : BitVec 1 := Scalar.cmpi .eq arg2 c1_i32
  let v63 : BitVec 32 := Scalar.extui v62
  let c0_i32_32 : BitVec 32 := 0#32
  let v64 : BitVec 1 := Scalar.cmpi .ne v63 c0_i32_32
  v64

def k1_off9 (i : grid1.Coords) : Fin 3 → Nat :=
  let c0_39 : Index := 0#32
  let arg1 : BitVec 32 := BitVec.ofNat 32 (i 1).val
  let v76 : Index := Scalar.indexCast arg1
  let c0_40 : Index := 0#32
  ![0, v76.toNat, 0]
def k1_cond23 (i : grid1.Coords) : BitVec 1 :=
  let arg2 : BitVec 32 := BitVec.ofNat 32 (i 2).val
  let c0_i32_14 : BitVec 32 := 0#32
  let v39 : BitVec 1 := Scalar.cmpi .eq arg2 c0_i32_14
  let v40 : BitVec 32 := Scalar.extui v39
  let c0_i32_15 : BitVec 32 := 0#32
  let v41 : BitVec 1 := Scalar.cmpi .ne v40 c0_i32_15
  v41

def k1_off10 (i : grid1.Coords) : Fin 3 → Nat :=
  let c0_33 : Index := 0#32
  let arg1 : BitVec 32 := BitVec.ofNat 32 (i 1).val
  let v65 : Index := Scalar.indexCast arg1
  let c0_34 : Index := 0#32
  ![0, v65.toNat, 0]
def k1_cond26 (i : grid1.Coords) : BitVec 1 :=
  let arg2 : BitVec 32 := BitVec.ofNat 32 (i 2).val
  let c1_i32 : BitVec 32 := 1#32
  let v62 : BitVec 1 := Scalar.cmpi .eq arg2 c1_i32
  let v63 : BitVec 32 := Scalar.extui v62
  let c0_i32_32 : BitVec 32 := 0#32
  let v64 : BitVec 1 := Scalar.cmpi .ne v63 c0_i32_32
  v64

def k1_off11 (i : grid1.Coords) : Fin 3 → Nat :=
  let c0_39 : Index := 0#32
  let arg1 : BitVec 32 := BitVec.ofNat 32 (i 1).val
  let v76 : Index := Scalar.indexCast arg1
  let c0_40 : Index := 0#32
  ![0, v76.toNat, 0]
def k1_cond28 (i : grid1.Coords) : BitVec 1 :=
  let arg2 : BitVec 32 := BitVec.ofNat 32 (i 2).val
  let c0_i32_14 : BitVec 32 := 0#32
  let v39 : BitVec 1 := Scalar.cmpi .eq arg2 c0_i32_14
  let v40 : BitVec 32 := Scalar.extui v39
  let c0_i32_15 : BitVec 32 := 0#32
  let v41 : BitVec 1 := Scalar.cmpi .ne v40 c0_i32_15
  v41

def k1_off12 (i : grid1.Coords) : Fin 3 → Nat :=
  let c0_33 : Index := 0#32
  let arg1 : BitVec 32 := BitVec.ofNat 32 (i 1).val
  let v65 : Index := Scalar.indexCast arg1
  let c0_34 : Index := 0#32
  ![0, v65.toNat, 0]
def k1_cond31 (i : grid1.Coords) : BitVec 1 :=
  let arg2 : BitVec 32 := BitVec.ofNat 32 (i 2).val
  let c1_i32 : BitVec 32 := 1#32
  let v62 : BitVec 1 := Scalar.cmpi .eq arg2 c1_i32
  let v63 : BitVec 32 := Scalar.extui v62
  let c0_i32_32 : BitVec 32 := 0#32
  let v64 : BitVec 1 := Scalar.cmpi .ne v63 c0_i32_32
  v64

def k1_off13 (i : grid1.Coords) : Fin 3 → Nat :=
  let c0_39 : Index := 0#32
  let arg1 : BitVec 32 := BitVec.ofNat 32 (i 1).val
  let v76 : Index := Scalar.indexCast arg1
  let c0_40 : Index := 0#32
  ![0, v76.toNat, 0]
def k1_cond1 (i : grid1.Coords) : BitVec 1 :=
  let arg1 : BitVec 32 := BitVec.ofNat 32 (i 1).val
  let c0_i32 : BitVec 32 := 0#32
  let v0 : BitVec 1 := Scalar.cmpi .eq arg1 c0_i32
  let arg2 : BitVec 32 := BitVec.ofNat 32 (i 2).val
  let c0_i32_0 : BitVec 32 := 0#32
  let v1 : BitVec 1 := Scalar.cmpi .eq arg2 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def k1_cond2 (v8 : BitVec 32) : BitVec 1 :=
  let c0_i32_2 : BitVec 32 := 0#32
  let v9 : BitVec 1 := Scalar.cmpi .sgt v8 c0_i32_2
  let c256_i32 : BitVec 32 := 256#32
  let v10 : BitVec 1 := Scalar.cmpi .sle v8 c256_i32
  let v11 : BitVec 1 := Scalar.andi v9 v10
  let v12 : BitVec 32 := Scalar.extui v11
  let c0_i32_3 : BitVec 32 := 0#32
  let v13 : BitVec 1 := Scalar.cmpi .ne v12 c0_i32_3
  v13

def k1_cond7 (v8 : BitVec 32) : BitVec 1 :=
  let c256_i32_4 : BitVec 32 := 256#32
  let v14 : BitVec 1 := Scalar.cmpi .sgt v8 c256_i32_4
  let c288_i32 : BitVec 32 := 288#32
  let v15 : BitVec 1 := Scalar.cmpi .sle v8 c288_i32
  let v16 : BitVec 1 := Scalar.andi v14 v15
  let v17 : BitVec 32 := Scalar.extui v16
  let c0_i32_5 : BitVec 32 := 0#32
  let v18 : BitVec 1 := Scalar.cmpi .ne v17 c0_i32_5
  v18

def k1_cond12 (v8 : BitVec 32) : BitVec 1 :=
  let c288_i32_6 : BitVec 32 := 288#32
  let v19 : BitVec 1 := Scalar.cmpi .sgt v8 c288_i32_6
  let c320_i32 : BitVec 32 := 320#32
  let v20 : BitVec 1 := Scalar.cmpi .sle v8 c320_i32
  let v21 : BitVec 1 := Scalar.andi v19 v20
  let v22 : BitVec 32 := Scalar.extui v21
  let c0_i32_7 : BitVec 32 := 0#32
  let v23 : BitVec 1 := Scalar.cmpi .ne v22 c0_i32_7
  v23

def k1_cond17 (v8 : BitVec 32) : BitVec 1 :=
  let c320_i32_8 : BitVec 32 := 320#32
  let v24 : BitVec 1 := Scalar.cmpi .sgt v8 c320_i32_8
  let c384_i32 : BitVec 32 := 384#32
  let v25 : BitVec 1 := Scalar.cmpi .sle v8 c384_i32
  let v26 : BitVec 1 := Scalar.andi v24 v25
  let v27 : BitVec 32 := Scalar.extui v26
  let c0_i32_9 : BitVec 32 := 0#32
  let v28 : BitVec 1 := Scalar.cmpi .ne v27 c0_i32_9
  v28

def k1_cond22 (v8 : BitVec 32) : BitVec 1 :=
  let c384_i32_10 : BitVec 32 := 384#32
  let v29 : BitVec 1 := Scalar.cmpi .sgt v8 c384_i32_10
  let c512_i32 : BitVec 32 := 512#32
  let v30 : BitVec 1 := Scalar.cmpi .sle v8 c512_i32
  let v31 : BitVec 1 := Scalar.andi v29 v30
  let v32 : BitVec 32 := Scalar.extui v31
  let c0_i32_11 : BitVec 32 := 0#32
  let v33 : BitVec 1 := Scalar.cmpi .ne v32 c0_i32_11
  v33

def k1_cond27 (v8 : BitVec 32) : BitVec 1 :=
  let c512_i32_12 : BitVec 32 := 512#32
  let v34 : BitVec 1 := Scalar.cmpi .sgt v8 c512_i32_12
  let c1024_i32 : BitVec 32 := 1024#32
  let v35 : BitVec 1 := Scalar.cmpi .sle v8 c1024_i32
  let v36 : BitVec 1 := Scalar.andi v34 v35
  let v37 : BitVec 32 := Scalar.extui v36
  let c0_i32_13 : BitVec 32 := 0#32
  let v38 : BitVec 1 := Scalar.cmpi .ne v37 c0_i32_13
  v38

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc1_transform_6 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc1_transform_7 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, false]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, false]

abbrev stage1_2 : Fin 2 → Memref sig .tc .vmem S1x8x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, false]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, false]

abbrev stage1_4 : Fin 2 → Memref sig .tc .vmem S1x1024x1792 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true, true]

abbrev stage1_5 : Fin 2 → Memref sig .tc .vmem S1x1024x1792 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true, true]

abbrev stage1_6 : Fin 2 → Memref sig .tc .vmem S1x1792x1024 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true, true]

abbrev stage1_7 : Fin 1 → Memref sig .tc .vmem S1024x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true, false, false]
-- ==== ReferenceIdeal.lean ====
abbrev S65536x1024 : Shape := ⟨2, ![65536, 1024]⟩
abbrev S1024 : Shape := ⟨1, ![1024]⟩
abbrev S1024x8 : Shape := ⟨2, ![1024, 8]⟩
abbrev S8x1024x3584 : Shape := ⟨3, ![8, 1024, 3584]⟩
abbrev S8x3584x1024 : Shape := ⟨3, ![8, 3584, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x8 : Shape := ⟨2, ![65536, 8]⟩
abbrev S65536x2 : Shape := ⟨2, ![65536, 2]⟩
abbrev S65536x2x1 : Shape := ⟨3, ![65536, 2, 1]⟩
abbrev S1x1x8 : Shape := ⟨3, ![1, 1, 8]⟩
abbrev S65536x2x8 : Shape := ⟨3, ![65536, 2, 8]⟩
abbrev S1x1024x3584 : Shape := ⟨3, ![1, 1024, 3584]⟩
abbrev S1024x3584 : Shape := ⟨2, ![1024, 3584]⟩
abbrev S1x3584x1024 : Shape := ⟨3, ![1, 3584, 1024]⟩
abbrev S3584x1024 : Shape := ⟨2, ![3584, 1024]⟩
abbrev S65536x3584 : Shape := ⟨2, ![65536, 3584]⟩

abbrev nBuf : Space → Nat
  | .hbm => 237
  | .vmem => 0
  | .smem => 0
  | _ => 0

abbrev hbmTy0_0 (i : Nat) : BufTy := match i % 128 with
  | 0 => ⟨S65536x1024, .f32⟩
  | 1 => ⟨S1024, .f32⟩
  | 2 => ⟨S1024x8, .f32⟩
  | 3 => ⟨S8x1024x3584, .f32⟩
  | 4 => ⟨S8x1024x3584, .f32⟩
  | 5 => ⟨S8x3584x1024, .f32⟩
  | 6 => ⟨S65536x1024, .f32⟩
  | 7 => ⟨S_, .f32⟩
  | 8 => ⟨S65536, .f32⟩
  | 9 => ⟨S65536x1, .f32⟩
  | 10 => ⟨S_, .f32⟩
  | 11 => ⟨S65536x1, .f32⟩
  | 12 => ⟨S65536x1, .f32⟩
  | 13 => ⟨S_, .f32⟩
  | 14 => ⟨S65536x1, .f32⟩
  | 15 => ⟨S65536x1, .f32⟩
  | 16 => ⟨S65536x1, .f32⟩
  | 17 => ⟨S65536x1024, .f32⟩
  | 18 => ⟨S65536x1024, .f32⟩
  | 19 => ⟨S1x1024, .f32⟩
  | 20 => ⟨S65536x1024, .f32⟩
  | 21 => ⟨S65536x1024, .f32⟩
  | 22 => ⟨S65536x8, .f32⟩
  | 23 => ⟨S65536x2, .f32⟩
  | 24 => ⟨S65536x2, .i32⟩
  | 25 => ⟨S_, .f32⟩
  | 26 => ⟨S65536, .f32⟩
  | 27 => ⟨S_, .f32⟩
  | 28 => ⟨S65536, .f32⟩
  | 29 => ⟨S65536, .f32⟩
  | 30 => ⟨S65536x1, .f32⟩
  | 31 => ⟨S65536x2, .f32⟩
  | 32 => ⟨S65536x2, .f32⟩
  | 33 => ⟨S65536x2, .f32⟩
  | 34 => ⟨S_, .f32⟩
  | 35 => ⟨S65536, .f32⟩
  | 36 => ⟨S65536x1, .f32⟩
  | 37 => ⟨S65536x2, .f32⟩
  | 38 => ⟨S65536x2, .f32⟩
  | 39 => ⟨S65536x2x1, .i32⟩
  | 40 => ⟨S1x1x8, .i32⟩
  | 41 => ⟨S65536x2x8, .i32⟩
  | 42 => ⟨S65536x2x8, .i32⟩
  | 43 => ⟨S65536x2x8, .i1⟩
  | 44 => ⟨S65536x2x8, .f32⟩
  | 45 => ⟨S65536x2x1, .f32⟩
  | 46 => ⟨S65536x2x8, .f32⟩
  | 47 => ⟨S65536x2x8, .f32⟩
  | 48 => ⟨S_, .f32⟩
  | 49 => ⟨S65536x8, .f32⟩
  | 50 => ⟨S_, .f32⟩
  | 51 => ⟨S65536x1024, .f32⟩
  | 52 => ⟨S65536x1, .f32⟩
  | 53 => ⟨S1x1024x3584, .f32⟩
  | 54 => ⟨S1024x3584, .f32⟩
  | 55 => ⟨S1x1024x3584, .f32⟩
  | 56 => ⟨S1024x3584, .f32⟩
  | 57 => ⟨S1x3584x1024, .f32⟩
  | 58 => ⟨S3584x1024, .f32⟩
  | 59 => ⟨S65536x3584, .f32⟩
  | 60 => ⟨S65536x3584, .f32⟩
  | 61 => ⟨S65536x3584, .f32⟩
  | 62 => ⟨S_, .f32⟩
  | 63 => ⟨S65536x3584, .f32⟩
  | 64 => ⟨S65536x3584, .f32⟩
  | 65 => ⟨S_, .f32⟩
  | 66 => ⟨S65536x3584, .f32⟩
  | 67 => ⟨S65536x3584, .f32⟩
  | 68 => ⟨S65536x3584, .f32⟩
  | 69 => ⟨S65536x3584, .f32⟩
  | 70 => ⟨S65536x3584, .f32⟩
  | 71 => ⟨S65536x1024, .f32⟩
  | 72 => ⟨S65536x1024, .f32⟩
  | 73 => ⟨S65536x1024, .f32⟩
  | 74 => ⟨S65536x1024, .f32⟩
  | 75 => ⟨S65536x1, .f32⟩
  | 76 => ⟨S1x1024x3584, .f32⟩
  | 77 => ⟨S1024x3584, .f32⟩
  | 78 => ⟨S1x1024x3584, .f32⟩
  | 79 => ⟨S1024x3584, .f32⟩
  | 80 => ⟨S1x3584x1024, .f32⟩
  | 81 => ⟨S3584x1024, .f32⟩
  | 82 => ⟨S65536x3584, .f32⟩
  | 83 => ⟨S65536x3584, .f32⟩
  | 84 => ⟨S65536x3584, .f32⟩
  | 85 => ⟨S_, .f32⟩
  | 86 => ⟨S65536x3584, .f32⟩
  | 87 => ⟨S65536x3584, .f32⟩
  | 88 => ⟨S_, .f32⟩
  | 89 => ⟨S65536x3584, .f32⟩
  | 90 => ⟨S65536x3584, .f32⟩
  | 91 => ⟨S65536x3584, .f32⟩
  | 92 => ⟨S65536x3584, .f32⟩
  | 93 => ⟨S65536x3584, .f32⟩
  | 94 => ⟨S65536x1024, .f32⟩
  | 95 => ⟨S65536x1024, .f32⟩
  | 96 => ⟨S65536x1024, .f32⟩
  | 97 => ⟨S65536x1024, .f32⟩
  | 98 => ⟨S65536x1, .f32⟩
  | 99 => ⟨S1x1024x3584, .f32⟩
  | 100 => ⟨S1024x3584, .f32⟩
  | 101 => ⟨S1x1024x3584, .f32⟩
  | 102 => ⟨S1024x3584, .f32⟩
  | 103 => ⟨S1x3584x1024, .f32⟩
  | 104 => ⟨S3584x1024, .f32⟩
  | 105 => ⟨S65536x3584, .f32⟩
  | 106 => ⟨S65536x3584, .f32⟩
  | 107 => ⟨S65536x3584, .f32⟩
  | 108 => ⟨S_, .f32⟩
  | 109 => ⟨S65536x3584, .f32⟩
  | 110 => ⟨S65536x3584, .f32⟩
  | 111 => ⟨S_, .f32⟩
  | 112 => ⟨S65536x3584, .f32⟩
  | 113 => ⟨S65536x3584, .f32⟩
  | 114 => ⟨S65536x3584, .f32⟩
  | 115 => ⟨S65536x3584, .f32⟩
  | 116 => ⟨S65536x3584, .f32⟩
  | 117 => ⟨S65536x1024, .f32⟩
  | 118 => ⟨S65536x1024, .f32⟩
  | 119 => ⟨S65536x1024, .f32⟩
  | 120 => ⟨S65536x1024, .f32⟩
  | 121 => ⟨S65536x1, .f32⟩
  | 122 => ⟨S1x1024x3584, .f32⟩
  | 123 => ⟨S1024x3584, .f32⟩
  | 124 => ⟨S1x1024x3584, .f32⟩
  | 125 => ⟨S1024x3584, .f32⟩
  | 126 => ⟨S1x3584x1024, .f32⟩
  | 127 => ⟨S3584x1024, .f32⟩
  | _ => ⟨S65536x1024, .f32⟩

abbrev hbmTy0_1 (i : Nat) : BufTy := match i % 128 with
  | 0 => ⟨S65536x3584, .f32⟩
  | 1 => ⟨S65536x3584, .f32⟩
  | 2 => ⟨S65536x3584, .f32⟩
  | 3 => ⟨S_, .f32⟩
  | 4 => ⟨S65536x3584, .f32⟩
  | 5 => ⟨S65536x3584, .f32⟩
  | 6 => ⟨S_, .f32⟩
  | 7 => ⟨S65536x3584, .f32⟩
  | 8 => ⟨S65536x3584, .f32⟩
  | 9 => ⟨S65536x3584, .f32⟩
  | 10 => ⟨S65536x3584, .f32⟩
  | 11 => ⟨S65536x3584, .f32⟩
  | 12 => ⟨S65536x1024, .f32⟩
  | 13 => ⟨S65536x1024, .f32⟩
  | 14 => ⟨S65536x1024, .f32⟩
  | 15 => ⟨S65536x1024, .f32⟩
  | 16 => ⟨S65536x1, .f32⟩
  | 17 => ⟨S1x1024x3584, .f32⟩
  | 18 => ⟨S1024x3584, .f32⟩
  | 19 => ⟨S1x1024x3584, .f32⟩
  | 20 => ⟨S1024x3584, .f32⟩
  | 21 => ⟨S1x3584x1024, .f32⟩
  | 22 => ⟨S3584x1024, .f32⟩
  | 23 => ⟨S65536x3584, .f32⟩
  | 24 => ⟨S65536x3584, .f32⟩
  | 25 => ⟨S65536x3584, .f32⟩
  | 26 => ⟨S_, .f32⟩
  | 27 => ⟨S65536x3584, .f32⟩
  | 28 => ⟨S65536x3584, .f32⟩
  | 29 => ⟨S_, .f32⟩
  | 30 => ⟨S65536x3584, .f32⟩
  | 31 => ⟨S65536x3584, .f32⟩
  | 32 => ⟨S65536x3584, .f32⟩
  | 33 => ⟨S65536x3584, .f32⟩
  | 34 => ⟨S65536x3584, .f32⟩
  | 35 => ⟨S65536x1024, .f32⟩
  | 36 => ⟨S65536x1024, .f32⟩
  | 37 => ⟨S65536x1024, .f32⟩
  | 38 => ⟨S65536x1024, .f32⟩
  | 39 => ⟨S65536x1, .f32⟩
  | 40 => ⟨S1x1024x3584, .f32⟩
  | 41 => ⟨S1024x3584, .f32⟩
  | 42 => ⟨S1x1024x3584, .f32⟩
  | 43 => ⟨S1024x3584, .f32⟩
  | 44 => ⟨S1x3584x1024, .f32⟩
  | 45 => ⟨S3584x1024, .f32⟩
  | 46 => ⟨S65536x3584, .f32⟩
  | 47 => ⟨S65536x3584, .f32⟩
  | 48 => ⟨S65536x3584, .f32⟩
  | 49 => ⟨S_, .f32⟩
  | 50 => ⟨S65536x3584, .f32⟩
  | 51 => ⟨S65536x3584, .f32⟩
  | 52 => ⟨S_, .f32⟩
  | 53 => ⟨S65536x3584, .f32⟩
  | 54 => ⟨S65536x3584, .f32⟩
  | 55 => ⟨S65536x3584, .f32⟩
  | 56 => ⟨S65536x3584, .f32⟩
  | 57 => ⟨S65536x3584, .f32⟩
  | 58 => ⟨S65536x1024, .f32⟩
  | 59 => ⟨S65536x1024, .f32⟩
  | 60 => ⟨S65536x1024, .f32⟩
  | 61 => ⟨S65536x1024, .f32⟩
  | 62 => ⟨S65536x1, .f32⟩
  | 63 => ⟨S1x1024x3584, .f32⟩
  | 64 => ⟨S1024x3584, .f32⟩
  | 65 => ⟨S1x1024x3584, .f32⟩
  | 66 => ⟨S1024x3584, .f32⟩
  | 67 => ⟨S1x3584x1024, .f32⟩
  | 68 => ⟨S3584x1024, .f32⟩
  | 69 => ⟨S65536x3584, .f32⟩
  | 70 => ⟨S65536x3584, .f32⟩
  | 71 => ⟨S65536x3584, .f32⟩
  | 72 => ⟨S_, .f32⟩
  | 73 => ⟨S65536x3584, .f32⟩
  | 74 => ⟨S65536x3584, .f32⟩
  | 75 => ⟨S_, .f32⟩
  | 76 => ⟨S65536x3584, .f32⟩
  | 77 => ⟨S65536x3584, .f32⟩
  | 78 => ⟨S65536x3584, .f32⟩
  | 79 => ⟨S65536x3584, .f32⟩
  | 80 => ⟨S65536x3584, .f32⟩
  | 81 => ⟨S65536x1024, .f32⟩
  | 82 => ⟨S65536x1024, .f32⟩
  | 83 => ⟨S65536x1024, .f32⟩
  | 84 => ⟨S65536x1024, .f32⟩
  | 85 => ⟨S65536x1, .f32⟩
  | 86 => ⟨S1x1024x3584, .f32⟩
  | 87 => ⟨S1024x3584, .f32⟩
  | 88 => ⟨S1x1024x3584, .f32⟩
  | 89 => ⟨S1024x3584, .f32⟩
  | 90 => ⟨S1x3584x1024, .f32⟩
  | 91 => ⟨S3584x1024, .f32⟩
  | 92 => ⟨S65536x3584, .f32⟩
  | 93 => ⟨S65536x3584, .f32⟩
  | 94 => ⟨S65536x3584, .f32⟩
  | 95 => ⟨S_, .f32⟩
  | 96 => ⟨S65536x3584, .f32⟩
  | 97 => ⟨S65536x3584, .f32⟩
  | 98 => ⟨S_, .f32⟩
  | 99 => ⟨S65536x3584, .f32⟩
  | 100 => ⟨S65536x3584, .f32⟩
  | 101 => ⟨S65536x3584, .f32⟩
  | 102 => ⟨S65536x3584, .f32⟩
  | 103 => ⟨S65536x3584, .f32⟩
  | 104 => ⟨S65536x1024, .f32⟩
  | 105 => ⟨S65536x1024, .f32⟩
  | 106 => ⟨S65536x1024, .f32⟩
  | 107 => ⟨S65536x1024, .f32⟩
  | 108 => ⟨S65536x1024, .f32⟩
  | _ => ⟨S65536x1024, .f32⟩

abbrev hbmTy (i : Nat) : BufTy := match i / 128 with
  | 0 => hbmTy0_0 i
  | 1 => hbmTy0_1 i
  | _ => ⟨S65536x1024, .f32⟩

abbrev bufTy : (tb : Table) → Fin (tcTables nBuf tb) → BufTy
  | .hbm, ⟨i, _⟩ => hbmTy i
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_values : Ref sig .tc := ⟨.hbm, 23, rfl⟩
abbrev main_indices : Ref sig .tc := ⟨.hbm, 24, rfl⟩
abbrev main_cst_2 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_5 : Ref sig .tc := ⟨.hbm, 48, rfl⟩
abbrev main_v29 : Ref sig .tc := ⟨.hbm, 49, rfl⟩
abbrev main_cst_6 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_call1_v0 : Ref sig .tc := ⟨.hbm, 60, rfl⟩
abbrev main_call1_v1 : Ref sig .tc := ⟨.hbm, 61, rfl⟩
abbrev main_call1_cst : Ref sig .tc := ⟨.hbm, 62, rfl⟩
abbrev main_call1_v2 : Ref sig .tc := ⟨.hbm, 63, rfl⟩
abbrev main_call1_v3 : Ref sig .tc := ⟨.hbm, 64, rfl⟩
abbrev main_call1_cst_0 : Ref sig .tc := ⟨.hbm, 65, rfl⟩
abbrev main_call1_v4 : Ref sig .tc := ⟨.hbm, 66, rfl⟩
abbrev main_call1_v5 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_call2_v0 : Ref sig .tc := ⟨.hbm, 83, rfl⟩
abbrev main_call2_v1 : Ref sig .tc := ⟨.hbm, 84, rfl⟩
abbrev main_call2_cst : Ref sig .tc := ⟨.hbm, 85, rfl⟩
abbrev main_call2_v2 : Ref sig .tc := ⟨.hbm, 86, rfl⟩
abbrev main_call2_v3 : Ref sig .tc := ⟨.hbm, 87, rfl⟩
abbrev main_call2_cst_0 : Ref sig .tc := ⟨.hbm, 88, rfl⟩
abbrev main_call2_v4 : Ref sig .tc := ⟨.hbm, 89, rfl⟩
abbrev main_call2_v5 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_call3_v0 : Ref sig .tc := ⟨.hbm, 106, rfl⟩
abbrev main_call3_v1 : Ref sig .tc := ⟨.hbm, 107, rfl⟩
abbrev main_call3_cst : Ref sig .tc := ⟨.hbm, 108, rfl⟩
abbrev main_call3_v2 : Ref sig .tc := ⟨.hbm, 109, rfl⟩
abbrev main_call3_v3 : Ref sig .tc := ⟨.hbm, 110, rfl⟩
abbrev main_call3_cst_0 : Ref sig .tc := ⟨.hbm, 111, rfl⟩
abbrev main_call3_v4 : Ref sig .tc := ⟨.hbm, 112, rfl⟩
abbrev main_call3_v5 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_call4_v0 : Ref sig .tc := ⟨.hbm, 129, rfl⟩
abbrev main_call4_v1 : Ref sig .tc := ⟨.hbm, 130, rfl⟩
abbrev main_call4_cst : Ref sig .tc := ⟨.hbm, 131, rfl⟩
abbrev main_call4_v2 : Ref sig .tc := ⟨.hbm, 132, rfl⟩
abbrev main_call4_v3 : Ref sig .tc := ⟨.hbm, 133, rfl⟩
abbrev main_call4_cst_0 : Ref sig .tc := ⟨.hbm, 134, rfl⟩
abbrev main_call4_v4 : Ref sig .tc := ⟨.hbm, 135, rfl⟩
abbrev main_call4_v5 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_call5_v0 : Ref sig .tc := ⟨.hbm, 152, rfl⟩
abbrev main_call5_v1 : Ref sig .tc := ⟨.hbm, 153, rfl⟩
abbrev main_call5_cst : Ref sig .tc := ⟨.hbm, 154, rfl⟩
abbrev main_call5_v2 : Ref sig .tc := ⟨.hbm, 155, rfl⟩
abbrev main_call5_v3 : Ref sig .tc := ⟨.hbm, 156, rfl⟩
abbrev main_call5_cst_0 : Ref sig .tc := ⟨.hbm, 157, rfl⟩
abbrev main_call5_v4 : Ref sig .tc := ⟨.hbm, 158, rfl⟩
abbrev main_call5_v5 : Ref sig .tc := ⟨.hbm, 159, rfl⟩
abbrev main_v99 : Ref sig .tc := ⟨.hbm, 160, rfl⟩
abbrev main_v100 : Ref sig .tc := ⟨.hbm, 161, rfl⟩
abbrev main_v101 : Ref sig .tc := ⟨.hbm, 162, rfl⟩
abbrev main_v102 : Ref sig .tc := ⟨.hbm, 163, rfl⟩
abbrev main_v103 : Ref sig .tc := ⟨.hbm, 164, rfl⟩
abbrev main_v104 : Ref sig .tc := ⟨.hbm, 165, rfl⟩
abbrev main_v105 : Ref sig .tc := ⟨.hbm, 166, rfl⟩
abbrev main_v106 : Ref sig .tc := ⟨.hbm, 167, rfl⟩
abbrev main_v107 : Ref sig .tc := ⟨.hbm, 168, rfl⟩
abbrev main_v108 : Ref sig .tc := ⟨.hbm, 169, rfl⟩
abbrev main_v109 : Ref sig .tc := ⟨.hbm, 170, rfl⟩
abbrev main_v110 : Ref sig .tc := ⟨.hbm, 171, rfl⟩
abbrev main_v111 : Ref sig .tc := ⟨.hbm, 172, rfl⟩
abbrev main_v112 : Ref sig .tc := ⟨.hbm, 173, rfl⟩
abbrev main_v113 : Ref sig .tc := ⟨.hbm, 174, rfl⟩
abbrev main_call6_v0 : Ref sig .tc := ⟨.hbm, 175, rfl⟩
abbrev main_call6_v1 : Ref sig .tc := ⟨.hbm, 176, rfl⟩
abbrev main_call6_cst : Ref sig .tc := ⟨.hbm, 177, rfl⟩
abbrev main_call6_v2 : Ref sig .tc := ⟨.hbm, 178, rfl⟩
abbrev main_call6_v3 : Ref sig .tc := ⟨.hbm, 179, rfl⟩
abbrev main_call6_cst_0 : Ref sig .tc := ⟨.hbm, 180, rfl⟩
abbrev main_call6_v4 : Ref sig .tc := ⟨.hbm, 181, rfl⟩
abbrev main_call6_v5 : Ref sig .tc := ⟨.hbm, 182, rfl⟩
abbrev main_v114 : Ref sig .tc := ⟨.hbm, 183, rfl⟩
abbrev main_v115 : Ref sig .tc := ⟨.hbm, 184, rfl⟩
abbrev main_v116 : Ref sig .tc := ⟨.hbm, 185, rfl⟩
abbrev main_v117 : Ref sig .tc := ⟨.hbm, 186, rfl⟩
abbrev main_v118 : Ref sig .tc := ⟨.hbm, 187, rfl⟩
abbrev main_v119 : Ref sig .tc := ⟨.hbm, 188, rfl⟩
abbrev main_v120 : Ref sig .tc := ⟨.hbm, 189, rfl⟩
abbrev main_v121 : Ref sig .tc := ⟨.hbm, 190, rfl⟩
abbrev main_v122 : Ref sig .tc := ⟨.hbm, 191, rfl⟩
abbrev main_v123 : Ref sig .tc := ⟨.hbm, 192, rfl⟩
abbrev main_v124 : Ref sig .tc := ⟨.hbm, 193, rfl⟩
abbrev main_v125 : Ref sig .tc := ⟨.hbm, 194, rfl⟩
abbrev main_v126 : Ref sig .tc := ⟨.hbm, 195, rfl⟩
abbrev main_v127 : Ref sig .tc := ⟨.hbm, 196, rfl⟩
abbrev main_v128 : Ref sig .tc := ⟨.hbm, 197, rfl⟩
abbrev main_call7_v0 : Ref sig .tc := ⟨.hbm, 198, rfl⟩
abbrev main_call7_v1 : Ref sig .tc := ⟨.hbm, 199, rfl⟩
abbrev main_call7_cst : Ref sig .tc := ⟨.hbm, 200, rfl⟩
abbrev main_call7_v2 : Ref sig .tc := ⟨.hbm, 201, rfl⟩
abbrev main_call7_v3 : Ref sig .tc := ⟨.hbm, 202, rfl⟩
abbrev main_call7_cst_0 : Ref sig .tc := ⟨.hbm, 203, rfl⟩
abbrev main_call7_v4 : Ref sig .tc := ⟨.hbm, 204, rfl⟩
abbrev main_call7_v5 : Ref sig .tc := ⟨.hbm, 205, rfl⟩
abbrev main_v129 : Ref sig .tc := ⟨.hbm, 206, rfl⟩
abbrev main_v130 : Ref sig .tc := ⟨.hbm, 207, rfl⟩
abbrev main_v131 : Ref sig .tc := ⟨.hbm, 208, rfl⟩
abbrev main_v132 : Ref sig .tc := ⟨.hbm, 209, rfl⟩
abbrev main_v133 : Ref sig .tc := ⟨.hbm, 210, rfl⟩
abbrev main_v134 : Ref sig .tc := ⟨.hbm, 211, rfl⟩
abbrev main_v135 : Ref sig .tc := ⟨.hbm, 212, rfl⟩
abbrev main_v136 : Ref sig .tc := ⟨.hbm, 213, rfl⟩
abbrev main_v137 : Ref sig .tc := ⟨.hbm, 214, rfl⟩
abbrev main_v138 : Ref sig .tc := ⟨.hbm, 215, rfl⟩
abbrev main_v139 : Ref sig .tc := ⟨.hbm, 216, rfl⟩
abbrev main_v140 : Ref sig .tc := ⟨.hbm, 217, rfl⟩
abbrev main_v141 : Ref sig .tc := ⟨.hbm, 218, rfl⟩
abbrev main_v142 : Ref sig .tc := ⟨.hbm, 219, rfl⟩
abbrev main_v143 : Ref sig .tc := ⟨.hbm, 220, rfl⟩
abbrev main_call8_v0 : Ref sig .tc := ⟨.hbm, 221, rfl⟩
abbrev main_call8_v1 : Ref sig .tc := ⟨.hbm, 222, rfl⟩
abbrev main_call8_cst : Ref sig .tc := ⟨.hbm, 223, rfl⟩
abbrev main_call8_v2 : Ref sig .tc := ⟨.hbm, 224, rfl⟩
abbrev main_call8_v3 : Ref sig .tc := ⟨.hbm, 225, rfl⟩
abbrev main_call8_cst_0 : Ref sig .tc := ⟨.hbm, 226, rfl⟩
abbrev main_call8_v4 : Ref sig .tc := ⟨.hbm, 227, rfl⟩
abbrev main_call8_v5 : Ref sig .tc := ⟨.hbm, 228, rfl⟩
abbrev main_v144 : Ref sig .tc := ⟨.hbm, 229, rfl⟩
abbrev main_v145 : Ref sig .tc := ⟨.hbm, 230, rfl⟩
abbrev main_v146 : Ref sig .tc := ⟨.hbm, 231, rfl⟩
abbrev main_v147 : Ref sig .tc := ⟨.hbm, 232, rfl⟩
abbrev main_v148 : Ref sig .tc := ⟨.hbm, 233, rfl⟩
abbrev main_v149 : Ref sig .tc := ⟨.hbm, 234, rfl⟩
abbrev main_v150 : Ref sig .tc := ⟨.hbm, 235, rfl⟩
abbrev main_v151 : Ref sig .tc := ⟨.hbm, 236, rfl⟩

abbrev nD : Nat := 1
abbrev τ : Topo := Topo.v7x

variable {F : FTy → Type} [FloatOps F]
-- ==== Kernel2.lean ====
abbrev S65536x1024 : Shape := ⟨2, ![65536, 1024]⟩
abbrev S1024 : Shape := ⟨1, ![1024]⟩
abbrev S1024x3584 : Shape := ⟨2, ![1024, 3584]⟩
abbrev S3584x1024 : Shape := ⟨2, ![3584, 1024]⟩
abbrev S1x1024 : Shape := ⟨2, ![1, 1024]⟩
abbrev S1024x1024 : Shape := ⟨2, ![1024, 1024]⟩
abbrev S1024x512 : Shape := ⟨2, ![1024, 512]⟩
abbrev S512x1024 : Shape := ⟨2, ![512, 1024]⟩
abbrev S1024x1 : Shape := ⟨2, ![1024, 1]⟩

abbrev nBuf : Space → Nat
  | .hbm => 10
  | .vmem => 12
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x3584, .f32⟩
  | .hbm, ⟨3, _⟩ => ⟨S1024x3584, .f32⟩
  | .hbm, ⟨4, _⟩ => ⟨S3584x1024, .f32⟩
  | .hbm, ⟨5, _⟩ => ⟨S1024x3584, .bf16⟩
  | .hbm, ⟨6, _⟩ => ⟨S1024x3584, .bf16⟩
  | .hbm, ⟨7, _⟩ => ⟨S3584x1024, .bf16⟩
  | .hbm, ⟨8, _⟩ => ⟨S1x1024, .f32⟩
  | .hbm, ⟨9, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S512x1024, .bf16⟩
  | .local _ .vmem, ⟨8, _⟩ => ⟨S512x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![64, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S65536x1024 : Shape := ⟨2, ![65536, 1024]⟩
abbrev S1024 : Shape := ⟨1, ![1024]⟩
abbrev S1024x3584 : Shape := ⟨2, ![1024, 3584]⟩
abbrev S3584x1024 : Shape := ⟨2, ![3584, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x3584 : Shape := ⟨2, ![65536, 3584]⟩

abbrev nBuf : Space → Nat
  | .hbm => 35
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x3584, .f32⟩
  | .hbm, ⟨3, _⟩ => ⟨S1024x3584, .f32⟩
  | .hbm, ⟨4, _⟩ => ⟨S3584x1024, .f32⟩
  | .hbm, ⟨5, _⟩ => ⟨S65536x1024, .f32⟩
  | .hbm, ⟨6, _⟩ => ⟨S_, .f32⟩
  | .hbm, ⟨7, _⟩ => ⟨S65536, .f32⟩
  | .hbm, ⟨8, _⟩ => ⟨S65536x1, .f32⟩
  | .hbm, ⟨9, _⟩ => ⟨S_, .f32⟩
  | .hbm, ⟨10, _⟩ => ⟨S65536x1, .f32⟩
  | .hbm, ⟨11, _⟩ => ⟨S65536x1, .f32⟩
  | .hbm, ⟨12, _⟩ => ⟨S_, .f32⟩
  | .hbm, ⟨13, _⟩ => ⟨S65536x1, .f32⟩
  | .hbm, ⟨14, _⟩ => ⟨S65536x1, .f32⟩
  | .hbm, ⟨15, _⟩ => ⟨S65536x1, .f32⟩
  | .hbm, ⟨16, _⟩ => ⟨S65536x1024, .f32⟩
  | .hbm, ⟨17, _⟩ => ⟨S65536x1024, .f32⟩
  | .hbm, ⟨18, _⟩ => ⟨S1x1024, .f32⟩
  | .hbm, ⟨19, _⟩ => ⟨S65536x1024, .f32⟩
  | .hbm, ⟨20, _⟩ => ⟨S65536x1024, .f32⟩
  | .hbm, ⟨21, _⟩ => ⟨S65536x3584, .f32⟩
  | .hbm, ⟨22, _⟩ => ⟨S65536x3584, .f32⟩
  | .hbm, ⟨23, _⟩ => ⟨S65536x3584, .f32⟩
  | .hbm, ⟨24, _⟩ => ⟨S_, .f32⟩
  | .hbm, ⟨25, _⟩ => ⟨S65536x3584, .f32⟩
  | .hbm, ⟨26, _⟩ => ⟨S65536x3584, .f32⟩
  | .hbm, ⟨27, _⟩ => ⟨S_, .f32⟩
  | .hbm, ⟨28, _⟩ => ⟨S65536x3584, .f32⟩
  | .hbm, ⟨29, _⟩ => ⟨S65536x3584, .f32⟩
  | .hbm, ⟨30, _⟩ => ⟨S65536x3584, .f32⟩
  | .hbm, ⟨31, _⟩ => ⟨S65536x3584, .f32⟩
  | .hbm, ⟨32, _⟩ => ⟨S65536x3584, .f32⟩
  | .hbm, ⟨33, _⟩ => ⟨S65536x1024, .f32⟩
  | .hbm, ⟨34, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩

abbrev nD : Nat := 1
abbrev τ : Topo := Topo.v7x

variable {F : FTy → Type} [FloatOps F]
-- ==== Proof.Body.lean ====
module

public import proofs.«01_k».proof.Proof.Gen.KernelIdeal.Launch
public import proofs.«01_k».proof.Proof.Gen.KernelIdeal.Skeleton
public import Idealize.ShloMosaic.Lib.Pipeline.FrameBody
public import Idealize.ShloMosaic.Lib.Tactic
public import Idealize.ShloMosaic.Lib.Exec
public import Idealize.ShloMosaic.Lib.VecWindow
public import Idealize.ShloMosaic.Lib.WholeRead
public import Idealize.ShloMosaic.Lib.Pipeline.Kit
public import Idealize.ShloMosaic.Lib.Pipeline.TableIdle
public import Idealize.ShloMosaic.Lib.Tactic.Stretches

/-!
# The experts' body at one grid point

The body of the experts' kernel first copies the residual block into the output block at the first
point of a token block, then reads the count of tokens that chose the expert, and then works through
one of six buckets, the one whose capacity covers the count. The six buckets are printed as six
copies of one text; here the text is written once over a bucket (`Bucket`), with what it leaves in
the output block and in the two scratch buffers as a function (`Bucket.step`).
-/

@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
variable {Ix : Type} [DecidableEq Ix] {U : Type} [URA U] {Lvl : Type} [Preorder Lvl]

local notation "𝕄" => MT nD τ sig Ix (Elt F) ℕ U Lvl

/-- What a point leaves changed: the output block and the two scratch buffers (the gathered rows and
    their results). -/
structure St (F : FTy → Type) [FloatOps F] where
  out : Vec F S1024x1024 .f32
  xe : Vec F S1024x1024 .bf16
  y : Vec F S1024x1024 .f32

/-- The blocks a point reads: the normalised rows, the combine weights, the positions, the residual
    block, and the expert's three weight tiles. -/
structure Blk (F : FTy → Type) [FloatOps F] where
  xn : Vec F S1024x1024 .bf16
  comb : Vec F S1024x128 .f32
  post : Vec F S1x8x1024 .f32
  x : Vec F S1024x1024 .f32
  w1 : Vec F S1x1024x1792 .bf16
  w3 : Vec F S1x1024x1792 .bf16
  w2 : Vec F S1x1792x1024 .bf16

/-- One bucket of the body: its number of rows (`d`), the test that the count falls in it (`live`),
    the tests for the first and the last tile of the hidden dimension, where the positions are read,
    and its four payloads. -/
structure Bucket (F : FTy → Type) [FloatOps F] where
  d : Fin 2 → ℕ
  inb : ∀ a, (![0, 0] : Fin 2 → ℕ) a + d a ≤ S1024x1024.size a
  pos : 0 < (⟨2, d⟩ : Shape).numel
  packed : (Rect.unit (s := S1024x1024) ![0, 0] d inb).PackedRows (EltTy.packing .bf16)
  live : BitVec 32 → BitVec 1
  first : grid1.Coords → BitVec 1
  last : grid1.Coords → BitVec 1
  offP : grid1.Coords → Fin 3 → ℕ
  inbP : ∀ i, first i = 1#1 → ∀ a, offP i a + S1x1x1024.size a ≤ S1x8x1024.size a
  offQ : grid1.Coords → Fin 3 → ℕ
  inbQ : ∀ i, last i = 1#1 → ∀ a, offQ i a + S1x1x1024.size a ≤ S1x8x1024.size a
  gather : Vec F S1x1x1024 .f32 → Vec F S1024x1024 .bf16 → Vec F ⟨2, d⟩ .bf16
  hidden : Vec F ⟨2, d⟩ .bf16 → Vec F S1x1024x1792 .bf16 → Vec F S1x1024x1792 .bf16 → Vec F S1x1792x1024 .bf16 → Vec F ⟨2, d⟩ .f32
  accum : Vec F ⟨2, d⟩ .bf16 → Vec F S1x1024x1792 .bf16 → Vec F S1x1024x1792 .bf16 → Vec F S1x1792x1024 .bf16 → Vec F ⟨2, d⟩ .f32 → Vec F ⟨2, d⟩ .f32
  scatter : grid1.Coords → Vec F S1024x128 .f32 → Vec F S1024x1024 .f32 → Vec F S1x1x1024 .f32 → Vec F ⟨2, d⟩ .f32 → Vec F S1024x1024 .f32

/-- The body's test that the point is on the first tile of the hidden dimension, and that it is past it. -/
abbrev fstTile (i : grid1.Coords) : BitVec 1 := Scalar.cmpi .ne (Scalar.extui (Scalar.cmpi .eq (BitVec.ofNat 32 (i 2).val) 0#32)) 0#32
abbrev sndTile (i : grid1.Coords) : BitVec 1 := Scalar.cmpi .ne (Scalar.extui (Scalar.cmpi .sgt (BitVec.ofNat 32 (i 2).val) 0#32)) 0#32

namespace Bucket

variable (B : Bucket F)

/-- The gathered rows after the first tile's gather. -/
def xe' (i : grid1.Coords) (b : Blk F) (s : St F) : Vec F S1024x1024 .bf16 :=
  if h : B.first i = 1#1 then VecWindow.put s.xe ![0, 0] B.d (B.gather (VecWindow.window b.post (B.offP i) S1x1x1024.size (B.inbP i h)) b.xn) else s.xe

/-- The results after the first tile has written them. -/
def y' (i : grid1.Coords) (b : Blk F) (s : St F) : Vec F S1024x1024 .f32 :=
  if fstTile i = 1#1 then VecWindow.put s.y ![0, 0] B.d (B.hidden (VecWindow.window (B.xe' i b s) ![0, 0] B.d B.inb) b.w1 b.w3 b.w2) else s.y

/-- The results after a later tile has added its own. -/
def y'' (i : grid1.Coords) (b : Blk F) (s : St F) : Vec F S1024x1024 .f32 :=
  if sndTile i = 1#1 then VecWindow.put (B.y' i b s) ![0, 0] B.d (B.accum (VecWindow.window (B.xe' i b s) ![0, 0] B.d B.inb) b.w1 b.w3 b.w2 (VecWindow.window (B.y' i b s) ![0, 0] B.d B.inb)) else B.y' i b s

/-- The output block after the last tile's scatter. -/
def out' (i : grid1.Coords) (b : Blk F) (s : St F) : Vec F S1024x1024 .f32 :=
  if h : B.last i = 1#1 then B.scatter i b.comb s.out (VecWindow.window b.post (B.offQ i) S1x1x1024.size (B.inbQ i h)) (VecWindow.window (B.y'' i b s) ![0, 0] B.d B.inb) else s.out

/-- What the bucket's text leaves, at count `n`. -/
def step (i : grid1.Coords) (n : BitVec 32) (b : Blk F) (s : St F) : St F :=
  if B.live n = 1#1 then ⟨B.out' i b s, B.xe' i b s, B.y'' i b s⟩ else s

/-- The bucket's text, with what follows it as `κ`. -/
def prog {α : Type} (i : grid1.Coords) (v8 : BitVec 32)
    (arg4 : Memref sig .tc .vmem S1024x1024 .bf16) (arg5 : Memref sig .tc .vmem S1024x128 .f32) (arg6 : Memref sig .tc .vmem S1x8x1024 .f32)
    (arg8 : Memref sig .tc .vmem S1x1024x1792 .bf16) (arg9 : Memref sig .tc .vmem S1x1024x1792 .bf16) (arg10 : Memref sig .tc .vmem S1x1792x1024 .bf16)
    (arg11 : Memref sig .tc .vmem S1024x1024 .f32) (arg12 : Memref sig .tc .vmem S1024x1024 .bf16) (harg12 : arg12.IsWhole) (arg13 : Memref sig .tc .vmem S1024x1024 .f32)
    (κ : Prog (TpuEff nD τ sig (Elt F) Λ₀ .tc) α) : Prog (TpuEff nD τ sig (Elt F) Λ₀ .tc) α := do
  if hl : B.live v8 = 1#1 then do
    if hf : B.first i = 1#1 then do
      let v66 : Vec F S1x1x1024 .f32 ← Prog.lift (.load arg6 (Rect.unit (s := S1x8x1024) (B.offP i) S1x1x1024.size (B.inbP i hf)).toLoadRect (View.loadsAt_vmem h_S1x1x1024))
      let v76 : Vec F S1024x1024 .bf16 ← Prog.lift (.load arg4 (Rect.unit (s := S1024x1024) ![0, 0] S1024x1024.size inb_S1024x1024_S1024x1024_0_0).toLoadRect (View.loadsAt_vmem h_S1024x1024))
      let v80 : Vec F ⟨2, B.d⟩ .bf16 ← Prog.lift (.load arg12 (Rect.unit (s := S1024x1024) ![0, 0] B.d B.inb).toLoadRect (View.loadsAt_vmem B.pos))
      Prog.lift (.store arg12 (Rect.unit (s := S1024x1024) ![0, 0] B.d B.inb) (B.gather v66 v76) Finset.univ (View.stores_vmem B.pos (harg12.storeExact_slice rfl _ B.packed) (fun _ => rfl)) (.inl rfl))
      pure ⟨⟩
    else do
      pure ⟨⟩
    let v42 : Vec F ⟨2, B.d⟩ .bf16 ← Prog.lift (.load arg12 (Rect.unit (s := S1024x1024) ![0, 0] B.d B.inb).toLoadRect (View.loadsAt_vmem B.pos))
    let v43 : Vec F S1x1024x1792 .bf16 ← Prog.lift (.load arg8 (Rect.unit (s := S1x1024x1792) ![0, 0, 0] S1x1024x1792.size inb_S1x1024x1792_S1x1024x1792_0_0_0).toLoadRect (View.loadsAt_vmem h_S1x1024x1792))
    let v45 : Vec F S1x1024x1792 .bf16 ← Prog.lift (.load arg9 (Rect.unit (s := S1x1024x1792) ![0, 0, 0] S1x1024x1792.size inb_S1x1024x1792_S1x1024x1792_0_0_0).toLoadRect (View.loadsAt_vmem h_S1x1024x1792))
    let v53 : Vec F S1x1792x1024 .bf16 ← Prog.lift (.load arg10 (Rect.unit (s := S1x1792x1024) ![0, 0, 0] S1x1792x1024.size inb_S1x1792x1024_S1x1792x1024_0_0_0).toLoadRect (View.loadsAt_vmem h_S1x1792x1024))
    if hg : fstTile i = 1#1 then do
      let v65 : Vec F ⟨2, B.d⟩ .f32 ← Prog.lift (.load arg13 (Rect.unit (s := S1024x1024) ![0, 0] B.d B.inb).toLoadRect (View.loadsAt_vmem B.pos))
      Prog.lift (.store arg13 (Rect.unit (s := S1024x1024) ![0, 0] B.d B.inb) (B.hidden v42 v43 v45 v53) Finset.univ (View.stores_vmem_bits_univ B.pos rfl) (.inl rfl))
      pure ⟨⟩
    else do
      pure ⟨⟩
    if hs : sndTile i = 1#1 then do
      let v65 : Vec F ⟨2, B.d⟩ .f32 ← Prog.lift (.load arg13 (Rect.unit (s := S1024x1024) ![0, 0] B.d B.inb).toLoadRect (View.loadsAt_vmem B.pos))
      let v67 : Vec F ⟨2, B.d⟩ .f32 ← Prog.lift (.load arg13 (Rect.unit (s := S1024x1024) ![0, 0] B.d B.inb).toLoadRect (View.loadsAt_vmem B.pos))
      Prog.lift (.store arg13 (Rect.unit (s := S1024x1024) ![0, 0] B.d B.inb) (B.accum v42 v43 v45 v53 v65) Finset.univ (View.stores_vmem_bits_univ B.pos rfl) (.inl rfl))
      pure ⟨⟩
    else do
      pure ⟨⟩
    if hq : B.last i = 1#1 then do
      let v65 : Vec F S1024x128 .f32 ← Prog.lift (.load arg5 (Rect.unit (s := S1024x128) ![0, 0] S1024x128.size inb_S1024x128_S1024x128_0_0).toLoadRect (View.loadsAt_vmem h_S1024x128))
      let v74 : Vec F S1024x1024 .f32 ← Prog.lift (.load arg11 (Rect.unit (s := S1024x1024) ![0, 0] S1024x1024.size inb_S1024x1024_S1024x1024_0_0).toLoadRect (View.loadsAt_vmem h_S1024x1024))
      let v77 : Vec F S1x1x1024 .f32 ← Prog.lift (.load arg6 (Rect.unit (s := S1x8x1024) (B.offQ i) S1x1x1024.size (B.inbQ i hq)).toLoadRect (View.loadsAt_vmem h_S1x1x1024))
      let v87 : Vec F ⟨2, B.d⟩ .f32 ← Prog.lift (.load arg13 (Rect.unit (s := S1024x1024) ![0, 0] B.d B.inb).toLoadRect (View.loadsAt_vmem B.pos))
      let v93 : Vec F S1024x1024 .f32 ← Prog.lift (.load arg11 (Rect.unit (s := S1024x1024) ![0, 0] S1024x1024.size inb_S1024x1024_S1024x1024_0_0).toLoadRect (View.loadsAt_vmem h_S1024x1024))
      Prog.lift (.store arg11 (Rect.unit (s := S1024x1024) ![0, 0] S1024x1024.size inb_S1024x1024_S1024x1024_0_0) (B.scatter i v65 v74 v77 v87) Finset.univ (View.stores_vmem_bits_univ h_S1024x1024 rfl) (.inl rfl))
      pure ⟨⟩
    else do
      pure ⟨⟩
    pure ⟨⟩
  else do
    pure ⟨⟩
  κ

end Bucket

/-- The bucket of 256 rows. -/
def bucket256 : Bucket F where
  d := S256x1024.size
  inb := inb_S1024x1024_S256x1024_0_0
  pos := h_S256x1024
  packed := packedbf16_S1024x1024_S256x1024_0_0
  live := k1_cond2
  first := k1_cond3
  last := k1_cond6
  offP := k1_off2
  inbP := k1_off2_inb
  offQ := k1_off3
  inbQ := k1_off3_inb
  gather := k1_pay11
  hidden := k1_pay13
  accum := k1_pay14
  scatter := k1_pay15

/-- The bucket of 288 rows. -/
def bucket288 : Bucket F where
  d := S288x1024.size
  inb := inb_S1024x1024_S288x1024_0_0
  pos := h_S288x1024
  packed := packedbf16_S1024x1024_S288x1024_0_0
  live := k1_cond7
  first := k1_cond8
  last := k1_cond11
  offP := k1_off4
  inbP := k1_off4_inb
  offQ := k1_off5
  inbQ := k1_off5_inb
  gather := k1_pay16
  hidden := k1_pay18
  accum := k1_pay19
  scatter := k1_pay20

/-- The bucket of 320 rows. -/
def bucket320 : Bucket F where
  d := S320x1024.size
  inb := inb_S1024x1024_S320x1024_0_0
  pos := h_S320x1024
  packed := packedbf16_S1024x1024_S320x1024_0_0
  live := k1_cond12
  first := k1_cond13
  last := k1_cond16
  offP := k1_off6
  inbP := k1_off6_inb
  offQ := k1_off7
  inbQ := k1_off7_inb
  gather := k1_pay21
  hidden := k1_pay23
  accum := k1_pay24
  scatter := k1_pay25

/-- The bucket of 384 rows. -/
def bucket384 : Bucket F where
  d := S384x1024.size
  inb := inb_S1024x1024_S384x1024_0_0
  pos := h_S384x1024
  packed := packedbf16_S1024x1024_S384x1024_0_0
  live := k1_cond17
  first := k1_cond18
  last := k1_cond21
  offP := k1_off8
  inbP := k1_off8_inb
  offQ := k1_off9
  inbQ := k1_off9_inb
  gather := k1_pay26
  hidden := k1_pay28
  accum := k1_pay29
  scatter := k1_pay30

/-- The bucket of 512 rows. -/
def bucket512 : Bucket F where
  d := S512x1024.size
  inb := inb_S1024x1024_S512x1024_0_0
  pos := h_S512x1024
  packed := packedbf16_S1024x1024_S512x1024_0_0
  live := k1_cond22
  first := k1_cond23
  last := k1_cond26
  offP := k1_off10
  inbP := k1_off10_inb
  offQ := k1_off11
  inbQ := k1_off11_inb
  gather := k1_pay1
  hidden := k1_pay3
  accum := k1_pay4
  scatter := fun i => k1_pay5 (BitVec.ofNat 32 (i 1).val)

/-- The bucket of 1024 rows. -/
def bucket1024 : Bucket F where
  d := S1024x1024.size
  inb := inb_S1024x1024_S1024x1024_0_0
  pos := h_S1024x1024
  packed := packedbf16_S1024x1024_S1024x1024_0_0
  live := k1_cond27
  first := k1_cond28
  last := k1_cond31
  offP := k1_off12
  inbP := k1_off12_inb
  offQ := k1_off13
  inbQ := k1_off13_inb
  gather := k1_pay6
  hidden := k1_pay8
  accum := k1_pay9
  scatter := fun i => k1_pay10 (BitVec.ofNat 32 (i 1).val)

/-- What a point leaves, at count `n`: the residual block copied at the first point of a token block, then the
    six buckets in turn (at most one of them is live). -/
def copyStep (i : grid1.Coords) (b : Blk F) (s : St F) : St F := if k1_cond1 i = 1#1 then ⟨b.x, s.xe, s.y⟩ else s

def bodyStep (i : grid1.Coords) (n : BitVec 32) (b : Blk F) (s : St F) : St F :=
  bucket1024.step i n b (bucket512.step i n b (bucket384.step i n b (bucket320.step i n b (bucket288.step i n b (bucket256.step i n b (copyStep i b s))))))

section Text

variable (i : grid1.Coords) (arg3 : Memref sig .tc .smem S512 .i32) (harg3 : arg3.IsWhole) (arg4 : Memref sig .tc .vmem S1024x1024 .bf16) (harg4 : arg4.IsWhole) (arg5 : Memref sig .tc .vmem S1024x128 .f32) (harg5 : arg5.IsWhole) (arg6 : Memref sig .tc .vmem S1x8x1024 .f32) (harg6 : arg6.IsWhole) (arg7 : Memref sig .tc .vmem S1024x1024 .f32) (harg7 : arg7.IsWhole) (arg8 : Memref sig .tc .vmem S1x1024x1792 .bf16) (harg8 : arg8.IsWhole) (arg9 : Memref sig .tc .vmem S1x1024x1792 .bf16) (harg9 : arg9.IsWhole) (arg10 : Memref sig .tc .vmem S1x1792x1024 .bf16) (harg10 : arg10.IsWhole) (arg11 : Memref sig .tc .vmem S1024x1024 .f32) (harg11 : arg11.IsWhole) (arg12 : Memref sig .tc .vmem S1024x1024 .bf16) (harg12 : arg12.IsWhole) (arg13 : Memref sig .tc .vmem S1024x1024 .f32) (harg13 : arg13.IsWhole)

/-- The copy of the residual block, with what follows it as `κ`. -/
def copyProg {α : Type} (κ : Prog (TpuEff nD τ sig (Elt F) Λ₀ .tc) α) : Prog (TpuEff nD τ sig (Elt F) Λ₀ .tc) α := do
  if hc : k1_cond1 i = 1#1 then do
    let v39 : Vec F S1024x1024 .f32 ← Prog.lift (.load arg7 (Rect.unit (s := S1024x1024) ![0, 0] S1024x1024.size inb_S1024x1024_S1024x1024_0_0).toLoadRect (View.loadsAt_vmem h_S1024x1024))
    let v40 : Vec F S1024x1024 .f32 ← Prog.lift (.load arg11 (Rect.unit (s := S1024x1024) ![0, 0] S1024x1024.size inb_S1024x1024_S1024x1024_0_0).toLoadRect (View.loadsAt_vmem h_S1024x1024))
    Prog.lift (.store arg11 (Rect.unit (s := S1024x1024) ![0, 0] S1024x1024.size inb_S1024x1024_S1024x1024_0_0) v39 Finset.univ (View.stores_vmem_bits_univ h_S1024x1024 rfl) (.inl rfl))
    pure ⟨⟩
  else do
    pure ⟨⟩
  κ

/-- The first part of the printed body, over the buckets' text. -/
def headProg : Prog (TpuEff nD τ sig (Elt F) Λ₀ .tc) (Σ' (arg1 : BitVec 32) (arg2 : BitVec 32) (v8 : Elt F .i32) (v32 : BitVec 32), BitVec 32) := copyProg i arg7 arg11 <| do
  let v8 : Elt F .i32 ← smemLoad arg3 (Rect.unit (s := S512) (k1_off1 i) S1.size (k1_off1_inb i)) numel1_S1 rfl
  bucket256.prog i v8 arg4 arg5 arg6 arg8 arg9 arg10 arg11 arg12 harg12 arg13 <|
    bucket288.prog i v8 arg4 arg5 arg6 arg8 arg9 arg10 arg11 arg12 harg12 arg13 <|
    bucket320.prog i v8 arg4 arg5 arg6 arg8 arg9 arg10 arg11 arg12 harg12 arg13 <|
    bucket384.prog i v8 arg4 arg5 arg6 arg8 arg9 arg10 arg11 arg12 harg12 arg13 <|
    pure ⟨BitVec.ofNat 32 (i 1).val, BitVec.ofNat 32 (i 2).val, v8, Scalar.extui (Scalar.andi (Scalar.cmpi .sgt v8 384#32) (Scalar.cmpi .sle v8 512#32)), 0#32⟩

set_option maxRecDepth 65536 in
theorem part1_eq : k1_part1 (F := F) i arg3 harg3 arg4 harg4 arg5 harg5 arg6 harg6 arg7 harg7 arg8 harg8 arg9 harg9 arg10 harg10 arg11 harg11 arg12 harg12 arg13 harg13
    = headProg i arg3 arg4 arg5 arg6 arg7 arg8 arg9 arg10 arg11 arg12 harg12 arg13 := by
  rw [k1_part1_eq_skeleton]; rfl

variable (𝒱₀ : Variants) (c : Dev nD)

/-- The blocks a point reads, held. -/
def ins (b : Blk F) : sProp 𝕄 :=
  iprop(owns (c : Thread nD τ) arg4 fullShare b.xn ∗ owns (c : Thread nD τ) arg5 fullShare b.comb ∗ owns (c : Thread nD τ) arg6 fullShare b.post
    ∗ owns (c : Thread nD τ) arg7 fullShare b.x ∗ owns (c : Thread nD τ) arg8 fullShare b.w1 ∗ owns (c : Thread nD τ) arg9 fullShare b.w3 ∗ owns (c : Thread nD τ) arg10 fullShare b.w2)

/-- What a point may change, held. -/
def sts (s : St F) : sProp 𝕄 :=
  iprop(owns (c : Thread nD τ) arg11 fullShare s.out ∗ owns (c : Thread nD τ) arg12 fullShare s.xe ∗ owns (c : Thread nD τ) arg13 fullShare s.y)

set_option maxHeartbeats 1000000 in
/-- A live bucket's text on the first tile. -/
theorem Bucket.prog_first (B : Bucket F) {α : Type} (v8 : BitVec 32) (b : Blk F) (s : St F) (κ : Prog (TpuEff nD τ sig (Elt F) Λ₀ .tc) α)
    (hl : B.live v8 = 1#1) (hf : B.first i = 1#1) (hg : fstTile i = 1#1) (hs : ¬ sndTile i = 1#1) (hq : ¬ B.last i = 1#1) (E : Set ℕ) (Q : α → sProp 𝕄) :
    iprop(ins arg4 arg5 arg6 arg7 arg8 arg9 arg10 c b ∗ sts arg11 arg12 arg13 c s
        ∗ (iprop(ins arg4 arg5 arg6 arg7 arg8 arg9 arg10 c b ∗ sts arg11 arg12 arg13 c (B.step i v8 b s))
          -∗ wp frame (wpE (defs₀ (F := F)) 𝒱₀ c none) E κ Q))
      ⊢ wp frame (wpE (defs₀ (F := F)) 𝒱₀ c none) E (B.prog i v8 arg4 arg5 arg6 arg8 arg9 arg10 arg11 arg12 harg12 arg13 κ) Q := by
  rw [show B.step i v8 b s = ⟨s.out, B.xe' i b s, B.y'' i b s⟩ by
    simp only [Bucket.step, if_pos hl, Bucket.out', dif_neg hq]]
  have e1 : B.xe' i b s = VecWindow.put s.xe ![0, 0] B.d (B.gather (VecWindow.window b.post (B.offP i) S1x1x1024.size (B.inbP i hf)) b.xn) := dif_pos hf
  have e2 : B.y'' i b s = VecWindow.put s.y ![0, 0] B.d (B.hidden (VecWindow.window (B.xe' i b s) ![0, 0] B.d B.inb) b.w1 b.w3 b.w2) := by
    simp only [Bucket.y'', if_neg hs, Bucket.y', if_pos hg]
  rw [e2, e1]
  simp only [ins, sts, Idealize.ShloMosaic.owns_eq_rep]
  iintro ⟨⟨H4, H5, H6, H7, H8, H9, H10⟩, ⟨H11, H12, H13⟩, Hk⟩
  unfold Bucket.prog
  sl_exec
  iapply Hk
  isplitl [H4 H5 H6 H7 H8 H9 H10]
  · iframe
  isplitl [H11]
  · iexact H11
  have r12 : arg12.view.read (Elt F) (arg12.view.writes (Elt F) (arg12.view.rep s.xe) (prog_first.sl.H12_1 i arg4 arg6 B b hf))
      = VecWindow.put s.xe ![0, 0] B.d (B.gather (VecWindow.window b.post (B.offP i) S1x1x1024.size (B.inbP i hf)) b.xn) := by
    sl_open_run
    rw [View.read_writes_rep_unit _ _ _ _ rfl, View.readAt_rep_unit _ _ _ rfl, View.readAt_rep_full]
  isplitl [H12]
  · iapply pointsTo_rep_of_read c arg12 _ fullShare _ r12 $$ H12
  iapply pointsTo_rep_of_read c arg13 _ fullShare _ _ $$ H13
  rw [View.read_writes_rep_unit _ _ _ _ rfl, View.readAt_unit _ _ _ rfl, r12, View.readAt_rep_full, View.readAt_rep_full, View.readAt_rep_full]

set_option maxHeartbeats 1000000 in
/-- A live bucket's text on the last tile. -/
theorem Bucket.prog_last (B : Bucket F) {α : Type} (v8 : BitVec 32) (b : Blk F) (s : St F) (κ : Prog (TpuEff nD τ sig (Elt F) Λ₀ .tc) α)
    (hl : B.live v8 = 1#1) (hf : ¬ B.first i = 1#1) (hg : ¬ fstTile i = 1#1) (hs : sndTile i = 1#1) (hq : B.last i = 1#1) (E : Set ℕ) (Q : α → sProp 𝕄) :
    iprop(ins arg4 arg5 arg6 arg7 arg8 arg9 arg10 c b ∗ sts arg11 arg12 arg13 c s
        ∗ (iprop(ins arg4 arg5 arg6 arg7 arg8 arg9 arg10 c b ∗ sts arg11 arg12 arg13 c (B.step i v8 b s))
          -∗ wp frame (wpE (defs₀ (F := F)) 𝒱₀ c none) E κ Q))
      ⊢ wp frame (wpE (defs₀ (F := F)) 𝒱₀ c none) E (B.prog i v8 arg4 arg5 arg6 arg8 arg9 arg10 arg11 arg12 harg12 arg13 κ) Q := by
  have e1 : B.xe' i b s = s.xe := dif_neg hf
  have e2 : B.y'' i b s = VecWindow.put s.y ![0, 0] B.d (B.accum (VecWindow.window s.xe ![0, 0] B.d B.inb) b.w1 b.w3 b.w2 (VecWindow.window s.y ![0, 0] B.d B.inb)) := by
    simp only [Bucket.y'', if_pos hs, Bucket.y', if_neg hg, e1]
  rw [show B.step i v8 b s = ⟨B.scatter i b.comb s.out (VecWindow.window b.post (B.offQ i) S1x1x1024.size (B.inbQ i hq)) (VecWindow.window (B.y'' i b s) ![0, 0] B.d B.inb), s.xe, B.y'' i b s⟩ by
    simp only [Bucket.step, if_pos hl, Bucket.out', dif_pos hq, e1]]
  rw [e2]
  simp only [ins, sts, Idealize.ShloMosaic.owns_eq_rep]
  iintro ⟨⟨H4, H5, H6, H7, H8, H9, H10⟩, ⟨H11, H12, H13⟩, Hk⟩
  unfold Bucket.prog
  sl_exec
  iapply Hk
  isplitl [H4 H5 H6 H7 H8 H9 H10]
  · iframe
  have r13 : arg13.view.read (Elt F) (arg13.view.writes (Elt F) (arg13.view.rep s.y) (prog_last.sl.H13_1 arg8 arg9 arg10 arg12 arg13 B b s))
      = VecWindow.put s.y ![0, 0] B.d (B.accum (VecWindow.window s.xe ![0, 0] B.d B.inb) b.w1 b.w3 b.w2 (VecWindow.window s.y ![0, 0] B.d B.inb)) := by
    sl_open_run
    rw [View.read_writes_rep_unit _ _ _ _ rfl, View.readAt_rep_full, View.readAt_rep_full, View.readAt_rep_full, View.readAt_rep_unit _ _ _ rfl, View.readAt_rep_unit _ _ _ rfl]
  isplitl [H11]
  · iapply pointsTo_rep_of_read c arg11 _ fullShare _ _ $$ H11
    rw [View.read_writes_full, View.readAt_rep_full, View.readAt_rep_full, View.readAt_rep_unit _ _ _ rfl, View.readAt_unit _ _ _ rfl, r13]
  isplitl [H12]
  · iexact H12
  iapply pointsTo_rep_of_read c arg13 _ fullShare _ r13 $$ H13

/-- A bucket that is not live is passed over. -/
theorem Bucket.prog_dead (B : Bucket F) {α : Type} (v8 : BitVec 32) (b : Blk F) (s : St F) (κ : Prog (TpuEff nD τ sig (Elt F) Λ₀ .tc) α)
    (hl : ¬ B.live v8 = 1#1) (E : Set ℕ) (Q : α → sProp 𝕄) :
    iprop(ins arg4 arg5 arg6 arg7 arg8 arg9 arg10 c b ∗ sts arg11 arg12 arg13 c s
        ∗ (iprop(ins arg4 arg5 arg6 arg7 arg8 arg9 arg10 c b ∗ sts arg11 arg12 arg13 c (B.step i v8 b s))
          -∗ wp frame (wpE (defs₀ (F := F)) 𝒱₀ c none) E κ Q))
      ⊢ wp frame (wpE (defs₀ (F := F)) 𝒱₀ c none) E (B.prog i v8 arg4 arg5 arg6 arg8 arg9 arg10 arg11 arg12 harg12 arg13 κ) Q := by
  rw [show B.step i v8 b s = s from if_neg hl]
  iintro ⟨HI, HS, Hk⟩
  unfold Bucket.prog
  rw [dif_neg hl]
  iapply Hk
  iframe

/-- The bucket's two tests on the tile read its coordinate. -/
structure Bucket.Ok (B : Bucket F) : Prop where
  first : ∀ i, B.first i = 1#1 ↔ (i 2).val = 0
  last : ∀ i, B.last i = 1#1 ↔ (i 2).val = 1

theorem tile_cases (i : grid1.Coords) : (i 2).val = 0 ∨ (i 2).val = 1 := by
  have h : (i 2).val < 2 := (i 2).isLt
  omega

/-- A one-bit word about the tile's number, decided on the two tiles. -/
theorem tile_iff (f : BitVec 32 → BitVec 1) (k : ℕ) (h0 : f 0#32 = 1#1 ↔ 0 = k) (h1 : f 1#32 = 1#1 ↔ 1 = k) (i : grid1.Coords) :
    f (BitVec.ofNat 32 (i 2).val) = 1#1 ↔ (i 2).val = k := by
  rcases tile_cases i with h | h <;> rw [h]
  · exact h0
  · exact h1

theorem fstTile_iff (i : grid1.Coords) : fstTile i = 1#1 ↔ (i 2).val = 0 :=
  tile_iff (fun a => Scalar.cmpi .ne (Scalar.extui (Scalar.cmpi .eq a 0#32)) 0#32) 0 (by decide) (by decide) i
theorem sndTile_iff (i : grid1.Coords) : sndTile i = 1#1 ↔ (i 2).val = 1 :=
  tile_iff (fun a => Scalar.cmpi .ne (Scalar.extui (Scalar.cmpi .sgt a 0#32)) 0#32) 1 (by decide) (by decide) i
/-- The test for the last tile, as each bucket prints it. -/
theorem lastTile_iff (i : grid1.Coords) : (Scalar.cmpi .ne (Scalar.extui (Scalar.cmpi .eq (BitVec.ofNat 32 (i 2).val) 1#32) : BitVec 32) 0#32 : BitVec 1) = 1#1 ↔ (i 2).val = 1 :=
  tile_iff (fun a => Scalar.cmpi .ne (Scalar.extui (Scalar.cmpi .eq a 1#32)) 0#32) 1 (by decide) (by decide) i

theorem ok256 : (bucket256 (F := F)).Ok := ⟨fstTile_iff, lastTile_iff⟩
theorem ok288 : (bucket288 (F := F)).Ok := ⟨fstTile_iff, lastTile_iff⟩
theorem ok320 : (bucket320 (F := F)).Ok := ⟨fstTile_iff, lastTile_iff⟩
theorem ok384 : (bucket384 (F := F)).Ok := ⟨fstTile_iff, lastTile_iff⟩
theorem ok512 : (bucket512 (F := F)).Ok := ⟨fstTile_iff, lastTile_iff⟩
theorem ok1024 : (bucket1024 (F := F)).Ok := ⟨fstTile_iff, lastTile_iff⟩

/-- A bucket's text at any point and count. -/
theorem Bucket.prog_wp (B : Bucket F) (hB : B.Ok) {α : Type} (v8 : BitVec 32) (b : Blk F) (s : St F) (κ : Prog (TpuEff nD τ sig (Elt F) Λ₀ .tc) α)
    (E : Set ℕ) (Q : α → sProp 𝕄) :
    iprop(ins arg4 arg5 arg6 arg7 arg8 arg9 arg10 c b ∗ sts arg11 arg12 arg13 c s
        ∗ (iprop(ins arg4 arg5 arg6 arg7 arg8 arg9 arg10 c b ∗ sts arg11 arg12 arg13 c (B.step i v8 b s))
          -∗ wp frame (wpE (defs₀ (F := F)) 𝒱₀ c none) E κ Q))
      ⊢ wp frame (wpE (defs₀ (F := F)) 𝒱₀ c none) E (B.prog i v8 arg4 arg5 arg6 arg8 arg9 arg10 arg11 arg12 harg12 arg13 κ) Q := by
  by_cases hl : B.live v8 = 1#1
  · rcases tile_cases i with h | h
    · exact B.prog_first i arg4 arg5 arg6 arg7 arg8 arg9 arg10 arg11 arg12 harg12 arg13 𝒱₀ c v8 b s κ hl ((hB.first i).2 h) ((fstTile_iff i).2 h)
        (fun e => by have := (sndTile_iff i).1 e; omega) (fun e => by have := (hB.last i).1 e; omega) E Q
    · exact B.prog_last i arg4 arg5 arg6 arg7 arg8 arg9 arg10 arg11 arg12 harg12 arg13 𝒱₀ c v8 b s κ hl (fun e => by have := (hB.first i).1 e; omega)
        (fun e => by have := (fstTile_iff i).1 e; omega) ((sndTile_iff i).2 h) ((hB.last i).2 h) E Q
  · exact B.prog_dead i arg4 arg5 arg6 arg7 arg8 arg9 arg10 arg11 arg12 harg12 arg13 𝒱₀ c v8 b s κ hl E Q

/-- The copy's triple. -/
theorem copy_wp {α : Type} (b : Blk F) (s : St F) (κ : Prog (TpuEff nD τ sig (Elt F) Λ₀ .tc) α)
    (E : Set ℕ) (Q : α → sProp 𝕄) :
    iprop(ins arg4 arg5 arg6 arg7 arg8 arg9 arg10 c b ∗ sts arg11 arg12 arg13 c s
        ∗ (iprop(ins arg4 arg5 arg6 arg7 arg8 arg9 arg10 c b ∗ sts arg11 arg12 arg13 c (copyStep i b s))
          -∗ wp frame (wpE (defs₀ (F := F)) 𝒱₀ c none) E κ Q))
      ⊢ wp frame (wpE (defs₀ (F := F)) 𝒱₀ c none) E (copyProg i arg7 arg11 κ) Q := by
  unfold copyProg copyStep
  by_cases hc : k1_cond1 i = 1#1
  · rw [if_pos hc]
    simp only [ins, sts, Idealize.ShloMosaic.owns_eq_rep]
    iintro ⟨⟨H4, H5, H6, H7, H8, H9, H10⟩, ⟨H11, H12, H13⟩, Hk⟩
    sl_exec
    iapply Hk
    isplitl [H4 H5 H6 H7 H8 H9 H10]
    · iframe
    isplitl [H11]
    · iapply pointsTo_rep_of_read c arg11 _ fullShare _ _ $$ H11
      rw [View.read_writes_full, View.readAt_rep_full]
    iframe
  · rw [if_neg hc, dif_neg hc]
    iintro ⟨HI, HS, Hk⟩
    iapply Hk
    iframe

theorem count_lt (i : grid1.Coords) (a : Fin 1) : k1_off1 i a < S512.size a := by
  obtain rfl : a = 0 := Subsingleton.elim _ _
  exact Nat.lt_of_succ_le (k1_off1_inb i 0)

/-- The count a point reads off the table `T`. -/
def count (T : Vec F S512 .i32) (i : grid1.Coords) : BitVec 32 := T (fun a => ⟨k1_off1 i a, count_lt i a⟩)

/-- The read of the count. -/
theorem read_wp {α : Type} (T : Vec F S512 .i32) (q : PosShare TreeShare) (κ : Elt F .i32 → Prog (TpuEff nD τ sig (Elt F) Λ₀ .tc) α)
    (E : Set ℕ) (Q : α → sProp 𝕄) :
    iprop(owns (c : Thread nD τ) arg3 q T ∗ (owns (c : Thread nD τ) arg3 q T -∗ wp frame (wpE (defs₀ (F := F)) 𝒱₀ c none) E (κ (count T i)) Q))
      ⊢ wp frame (wpE (defs₀ (F := F)) 𝒱₀ c none) E (smemLoad arg3 (Rect.unit (s := S512) (k1_off1 i) S1.size (k1_off1_inb i)) numel1_S1 rfl >>= κ) Q := by
  simp only [Idealize.ShloMosaic.owns_eq_rep]
  iintro ⟨H, Hk⟩
  sl_exec
  have r : read_wp.sl.r i arg3 T = count T i := by
    sl_open_run
    rw [View.readAt_rep]
    exact congrArg T (funext fun a => Fin.ext (by
      obtain rfl : a = 0 := Subsingleton.elim _ _
      rfl))
  rw [r]
  iapply Hk $$ H

/-- The body's triple: the blocks read stay, the table stays, and what may change becomes `bodyStep`. -/
theorem body_wp (T : Vec F S512 .i32) (q : PosShare TreeShare) (b : Blk F) (s : St F) (E : Set ℕ) (Q : PUnit → sProp 𝕄) :
    iprop(owns (c : Thread nD τ) arg3 q T ∗ ins arg4 arg5 arg6 arg7 arg8 arg9 arg10 c b ∗ sts arg11 arg12 arg13 c s
        ∗ (iprop(owns (c : Thread nD τ) arg3 q T ∗ ins arg4 arg5 arg6 arg7 arg8 arg9 arg10 c b ∗ sts arg11 arg12 arg13 c (bodyStep i (count T i) b s)) -∗ Q ⟨⟩))
      ⊢ wp frame (wpE (defs₀ (F := F)) 𝒱₀ c none) E
          (cc1_moe_experts i arg3 harg3 arg4 harg4 arg5 harg5 arg6 harg6 arg7 harg7 arg8 harg8 arg9 harg9 arg10 harg10 arg11 harg11 arg12 harg12 arg13 harg13) Q := by
  rw [cc1_moe_experts_eq_skeleton]
  unfold cc1_moe_experts_skel
  rw [wp_bind, part1_eq]
  iintro ⟨HT, HI, HS, Hk⟩
  iapply (copy_wp i arg4 arg5 arg6 arg7 arg8 arg9 arg10 arg11 arg12 arg13 𝒱₀ c b s _ E _) $$ [HI HS HT Hk]
  isplitl [HI]; · iexact HI
  isplitl [HS]; · iexact HS
  iintro ⟨HI, HS⟩
  iapply (read_wp i arg3 𝒱₀ c T q _ E _) $$ [HI HS HT Hk]
  isplitl [HT]; · iexact HT
  iintro HT
  iapply (bucket256.prog_wp i arg4 arg5 arg6 arg7 arg8 arg9 arg10 arg11 arg12 harg12 arg13 𝒱₀ c ok256 _ b _ _ E _) $$ [HI HS HT Hk]
  isplitl [HI]; · iexact HI
  isplitl [HS]; · iexact HS
  iintro ⟨HI, HS⟩
  iapply (bucket288.prog_wp i arg4 arg5 arg6 arg7 arg8 arg9 arg10 arg11 arg12 harg12 arg13 𝒱₀ c ok288 _ b _ _ E _) $$ [HI HS HT Hk]
  isplitl [HI]; · iexact HI
  isplitl [HS]; · iexact HS
  iintro ⟨HI, HS⟩
  iapply (bucket320.prog_wp i arg4 arg5 arg6 arg7 arg8 arg9 arg10 arg11 arg12 harg12 arg13 𝒱₀ c ok320 _ b _ _ E _) $$ [HI HS HT Hk]
  isplitl [HI]; · iexact HI
  isplitl [HS]; · iexact HS
  iintro ⟨HI, HS⟩
  iapply (bucket384.prog_wp i arg4 arg5 arg6 arg7 arg8 arg9 arg10 arg11 arg12 harg12 arg13 𝒱₀ c ok384 _ b _ _ E _) $$ [HI HS HT Hk]
  isplitl [HI]; · iexact HI
  isplitl [HS]; · iexact HS
  iintro ⟨HI, HS⟩
  rw [wp_pure]
  imodintro
  iapply (bucket512.prog_wp i arg4 arg5 arg6 arg7 arg8 arg9 arg10 arg11 arg12 harg12 arg13 𝒱₀ c ok512 _ b _ _ E _) $$ [HI HS HT Hk]
  isplitl [HI]; · iexact HI
  isplitl [HS]; · iexact HS
  iintro ⟨HI, HS⟩
  iapply (bucket1024.prog_wp i arg4 arg5 arg6 arg7 arg8 arg9 arg10 arg11 arg12 harg12 arg13 𝒱₀ c ok1024 _ b _ _ E _) $$ [HI HS HT Hk]
  isplitl [HI]; · iexact HI
  isplitl [HS]; · iexact HS
  iintro ⟨HI, HS⟩
  rw [wp_pure]
  imodintro
  iapply Hk
  isplitl [HT]; · iexact HT
  isplitl [HI]; · iexact HI
  iexact HS

end Text

end Cert.KernelIdeal.Moe

end
-- ==== Proof.Trajectory.lean ====
module

public import proofs.«01_k».proof.Proof.Body
public import Idealize.ShloMosaic.Lib.WordCmp

/-!
# The states the experts' points pass through

A count is served by at most one bucket (`live_unique`). What a point leaves therefore depends on one
bucket alone, and what two consecutive points (the two tiles of the hidden dimension) leave in the
output block does not depend on what the scratch buffers held before (`Agree`).
-/

@[expose] public section

noncomputable section

namespace Cert.KernelIdeal.Moe

open Cert.KernelIdeal Cert.KernelIdeal.Gen
open Idealize.ShloMosaic Idealize.ShloMosaic.TcCoe

variable {F : FTy → Type} [FloatOps F]

/-- A bucket's test: the count lies above `lo` and not above `hi`, as signed words. -/
theorem range_iff (n lo hi : BitVec 32) :
    (Scalar.cmpi .ne (Scalar.extui (Scalar.andi (Scalar.cmpi .sgt n lo) (Scalar.cmpi .sle n hi)) : BitVec 32) 0#32 : BitVec 1) = 1#1
      ↔ lo.toInt < n.toInt ∧ n.toInt ≤ hi.toInt := by
  have hs : (Scalar.cmpi .sgt n lo : BitVec 1) = BitVec.ofBool (lo.slt n) := rfl
  have hl : (Scalar.cmpi .sle n hi : BitVec 1) = BitVec.ofBool (n.sle hi) := rfl
  rw [hs, hl, ← BitVec.slt_iff_toInt_lt, ← BitVec.sle_iff_toInt_le]
  cases lo.slt n <;> cases n.sle hi <;> decide

theorem live256 (n : BitVec 32) : (bucket256 (F := F)).live n = 1#1 ↔ 0 < n.toInt ∧ n.toInt ≤ 256 := range_iff n 0#32 256#32
theorem live288 (n : BitVec 32) : (bucket288 (F := F)).live n = 1#1 ↔ 256 < n.toInt ∧ n.toInt ≤ 288 := range_iff n 256#32 288#32
theorem live320 (n : BitVec 32) : (bucket320 (F := F)).live n = 1#1 ↔ 288 < n.toInt ∧ n.toInt ≤ 320 := range_iff n 288#32 320#32
theorem live384 (n : BitVec 32) : (bucket384 (F := F)).live n = 1#1 ↔ 320 < n.toInt ∧ n.toInt ≤ 384 := range_iff n 320#32 384#32
theorem live512 (n : BitVec 32) : (bucket512 (F := F)).live n = 1#1 ↔ 384 < n.toInt ∧ n.toInt ≤ 512 := range_iff n 384#32 512#32
theorem live1024 (n : BitVec 32) : (bucket1024 (F := F)).live n = 1#1 ↔ 512 < n.toInt ∧ n.toInt ≤ 1024 := range_iff n 512#32 1024#32

/-- `B` serves the count `n`: it is one of the six and live. -/
def Serves (B : Bucket F) (n : BitVec 32) : Prop :=
  (B = bucket256 ∨ B = bucket288 ∨ B = bucket320 ∨ B = bucket384 ∨ B = bucket512 ∨ B = bucket1024) ∧ B.live n = 1#1

theorem Serves.ok {B : Bucket F} {n : BitVec 32} (h : Serves B n) : B.Ok := by
  rcases h.1 with rfl | rfl | rfl | rfl | rfl | rfl
  · exact ok256
  · exact ok288
  · exact ok320
  · exact ok384
  · exact ok512
  · exact ok1024

/-- With a bucket that serves the count, the point does the copy and that bucket's step. -/
theorem bodyStep_serves {B : Bucket F} {n : BitVec 32} (h : Serves B n) (i : grid1.Coords) (b : Blk F) (s : St F) :
    bodyStep i n b s = B.step i n b (copyStep i b s) := by
  have dead : ∀ (B' : Bucket F) (s' : St F), ¬ B'.live n = 1#1 → B'.step i n b s' = s' := fun B' s' h' => if_neg h'
  obtain ⟨h, hl⟩ := h
  unfold bodyStep
  rcases h with rfl | rfl | rfl | rfl | rfl | rfl
  · rw [live256] at hl
    rw [dead bucket288 _ (by rw [live288]; omega), dead bucket320 _ (by rw [live320]; omega), dead bucket384 _ (by rw [live384]; omega),
      dead bucket512 _ (by rw [live512]; omega), dead bucket1024 _ (by rw [live1024]; omega)]
  · rw [live288] at hl
    rw [dead bucket256 _ (by rw [live256]; omega), dead bucket320 _ (by rw [live320]; omega), dead bucket384 _ (by rw [live384]; omega),
      dead bucket512 _ (by rw [live512]; omega), dead bucket1024 _ (by rw [live1024]; omega)]
  · rw [live320] at hl
    rw [dead bucket256 _ (by rw [live256]; omega), dead bucket288 _ (by rw [live288]; omega), dead bucket384 _ (by rw [live384]; omega),
      dead bucket512 _ (by rw [live512]; omega), dead bucket1024 _ (by rw [live1024]; omega)]
  · rw [live384] at hl
    rw [dead bucket256 _ (by rw [live256]; omega), dead bucket288 _ (by rw [live288]; omega), dead bucket320 _ (by rw [live320]; omega),
      dead bucket512 _ (by rw [live512]; omega), dead bucket1024 _ (by rw [live1024]; omega)]
  · rw [live512] at hl
    rw [dead bucket256 _ (by rw [live256]; omega), dead bucket288 _ (by rw [live288]; omega), dead bucket320 _ (by rw [live320]; omega),
      dead bucket384 _ (by rw [live384]; omega), dead bucket1024 _ (by rw [live1024]; omega)]
  · rw [live1024] at hl
    rw [dead bucket256 _ (by rw [live256]; omega), dead bucket288 _ (by rw [live288]; omega), dead bucket320 _ (by rw [live320]; omega),
      dead bucket384 _ (by rw [live384]; omega), dead bucket512 _ (by rw [live512]; omega)]

/-- Without one, the copy alone. -/
theorem bodyStep_none {n : BitVec 32} (h : ∀ B : Bucket F, ¬ Serves B n) (i : grid1.Coords) (b : Blk F) (s : St F) :
    bodyStep i n b s = copyStep i b s := by
  have dead : ∀ (B' : Bucket F) (s' : St F), (B' = bucket256 ∨ B' = bucket288 ∨ B' = bucket320 ∨ B' = bucket384 ∨ B' = bucket512 ∨ B' = bucket1024) →
      B'.step i n b s' = s' := fun B' s' hB' => if_neg fun hl => h B' ⟨hB', hl⟩
  unfold bodyStep
  rw [dead bucket256 _ (by simp), dead bucket288 _ (by simp), dead bucket320 _ (by simp), dead bucket384 _ (by simp), dead bucket512 _ (by simp),
    dead bucket1024 _ (by simp)]

/-- A count that some bucket serves is between 1 and 1024, and conversely. -/
theorem exists_serves_iff (n : BitVec 32) : (∃ B : Bucket F, Serves B n) ↔ 0 < n.toInt ∧ n.toInt ≤ 1024 := by
  constructor
  · rintro ⟨B, h, hl⟩
    rcases h with rfl | rfl | rfl | rfl | rfl | rfl
    · rw [live256] at hl; omega
    · rw [live288] at hl; omega
    · rw [live320] at hl; omega
    · rw [live384] at hl; omega
    · rw [live512] at hl; omega
    · rw [live1024] at hl; omega
  · rintro ⟨h0, h1⟩
    by_cases h2 : n.toInt ≤ 256
    · exact ⟨bucket256, by simp, by rw [live256]; omega⟩
    by_cases h3 : n.toInt ≤ 288
    · exact ⟨bucket288, by simp, by rw [live288]; omega⟩
    by_cases h4 : n.toInt ≤ 320
    · exact ⟨bucket320, by simp, by rw [live320]; omega⟩
    by_cases h5 : n.toInt ≤ 384
    · exact ⟨bucket384, by simp, by rw [live384]; omega⟩
    by_cases h6 : n.toInt ≤ 512
    · exact ⟨bucket512, by simp, by rw [live512]; omega⟩
    · exact ⟨bucket1024, by simp, by rw [live1024]; omega⟩

/-! ## The points -/

theorem coords1 : ∀ t : Fin grid1.N, (grid1.coords t 0).val = t.val / 16 ∧ (grid1.coords t 1).val = t.val % 16 / 2 ∧ (grid1.coords t 2).val = t.val % 2 := by
  decide +kernel

/-- The output's block is written back at the last point of a token block. -/
theorem flush1 : ∀ t : Fin grid1.N, Pipeline.Window.flushOf grid1 true cc1_transform_7 t = decide (t.val % 16 = 15) := by
  intro t
  have hN : grid1.N = 1024 := N_1
  have hix : ∀ t' : Fin grid1.N, cc1_transform_7 (grid1.coords t') = ![t'.val / 16, 0] := fun t' => by
    have h0 := (coords1 t').1
    have hb : t'.val / 16 < 2 ^ 32 := by have := t'.isLt; omega
    show ![(BitVec.ofNat 32 (grid1.coords t' 0).val).toNat, 0] = _
    rw [h0, BitVec.toNat_ofNat, Nat.mod_eq_of_lt hb]
  rw [Bool.eq_iff_iff]
  unfold Pipeline.Window.flushOf
  simp only [Bool.true_and, Bool.or_eq_true, decide_eq_true_eq, hix]
  have ht := t.isLt
  constructor
  · rintro (h | ⟨h, hne⟩)
    · omega
    · by_contra hc
      have e : (t.val + 1) / 16 = t.val / 16 := by omega
      rw [e] at hne; exact hne rfl
  · intro h
    by_cases hl : t.val + 1 = grid1.N
    · exact .inl hl
    · refine .inr ⟨by omega, fun e => ?_⟩
      have e0 := congrFun e 0
      change (t.val + 1) / 16 = t.val / 16 at e0
      omega

/-- The copy's test: the first expert and the first tile. -/
theorem copy_iff (t : Fin grid1.N) : k1_cond1 (grid1.coords t) = 1#1 ↔ t.val % 16 = 0 := by
  obtain ⟨-, h1, h2⟩ := coords1 t
  unfold k1_cond1
  rw [h1, h2]
  have key : ∀ e : Fin 8, ∀ j : Fin 2, (Scalar.cmpi .ne (Scalar.extui (Scalar.andi (Scalar.cmpi .eq (BitVec.ofNat 32 e.val) 0#32) (Scalar.cmpi .eq (BitVec.ofNat 32 j.val) 0#32)) : BitVec 32) 0#32 : BitVec 1) = 1#1 ↔ e.val = 0 ∧ j.val = 0 := by
    decide
  refine (key ⟨t.val % 16 / 2, by omega⟩ ⟨t.val % 2, by omega⟩).trans ?_
  show t.val % 16 / 2 = 0 ∧ t.val % 2 = 0 ↔ _
  omega

/-! ## What two states agree on -/

/-- What the rest of a token block depends on, before point `k` at count `n`: past its first point the output
    block, and on the second tile the rows that the count's bucket reads. -/
def Agree (k : ℕ) (n : BitVec 32) (s s' : St F) : Prop :=
  (k % 16 ≠ 0 → s.out = s'.out)
  ∧ (k % 2 = 1 → ∀ B : Bucket F, Serves B n →
      VecWindow.window s.xe ![0, 0] B.d B.inb = VecWindow.window s'.xe ![0, 0] B.d B.inb
      ∧ VecWindow.window s.y ![0, 0] B.d B.inb = VecWindow.window s'.y ![0, 0] B.d B.inb)

/-- The copy keeps the scratch buffers. -/
theorem copyStep_xe (i : grid1.Coords) (b : Blk F) (s : St F) : (copyStep i b s).xe = s.xe := by unfold copyStep; split <;> rfl
theorem copyStep_y (i : grid1.Coords) (b : Blk F) (s : St F) : (copyStep i b s).y = s.y := by unfold copyStep; split <;> rfl
theorem copyStep_out (t : Fin grid1.N) (b : Blk F) (s : St F) : (copyStep (grid1.coords t) b s).out = if t.val % 16 = 0 then b.x else s.out := by
  unfold copyStep
  by_cases h : t.val % 16 = 0
  · rw [if_pos ((copy_iff t).2 h), if_pos h]
  · rw [if_neg (fun e => h ((copy_iff t).1 e)), if_neg h]

section

variable {B : Bucket F} (hB : B.Ok) (i : grid1.Coords) (b : Blk F) (s : St F)
include hB

/-- On the first tile a bucket gathers its rows, and its results are the tile's; the output block stays. -/
theorem xe'_first (h : (i 2).val = 0) :
    VecWindow.window (B.xe' i b s) ![0, 0] B.d B.inb = B.gather (VecWindow.window b.post (B.offP i) S1x1x1024.size (B.inbP i ((hB.first i).2 h))) b.xn := by
  unfold Bucket.xe'; rw [dif_pos ((hB.first i).2 h), VecWindow.window_put_same]
theorem y''_first (h : (i 2).val = 0) :
    VecWindow.window (B.y'' i b s) ![0, 0] B.d B.inb = B.hidden (B.gather (VecWindow.window b.post (B.offP i) S1x1x1024.size (B.inbP i ((hB.first i).2 h))) b.xn) b.w1 b.w3 b.w2 := by
  unfold Bucket.y'' Bucket.y'
  rw [if_neg (fun e => by have := (sndTile_iff i).1 e; omega), if_pos ((fstTile_iff i).2 h), VecWindow.window_put_same, xe'_first hB i b s h]
theorem out'_first (h : (i 2).val = 0) : B.out' i b s = s.out := by
  unfold Bucket.out'; rw [dif_neg (fun e => by have := (hB.last i).1 e; omega)]

/-- On the second tile it adds the tile's results, and scatters their sum into the output block. -/
theorem xe'_second (h : (i 2).val = 1) : B.xe' i b s = s.xe := by
  unfold Bucket.xe'; rw [dif_neg (fun e => by have := (hB.first i).1 e; omega)]
theorem y''_second (h : (i 2).val = 1) :
    VecWindow.window (B.y'' i b s) ![0, 0] B.d B.inb
      = B.accum (VecWindow.window s.xe ![0, 0] B.d B.inb) b.w1 b.w3 b.w2 (VecWindow.window s.y ![0, 0] B.d B.inb) := by
  unfold Bucket.y'' Bucket.y'
  rw [if_pos ((sndTile_iff i).2 h), if_neg (fun e => by have := (fstTile_iff i).1 e; omega), VecWindow.window_put_same, xe'_second hB i b s h]
theorem out'_second (h : (i 2).val = 1) :
    B.out' i b s = B.scatter i b.comb s.out (VecWindow.window b.post (B.offQ i) S1x1x1024.size (B.inbQ i ((hB.last i).2 h)))
      (B.accum (VecWindow.window s.xe ![0, 0] B.d B.inb) b.w1 b.w3 b.w2 (VecWindow.window s.y ![0, 0] B.d B.inb)) := by
  unfold Bucket.out'; rw [dif_pos ((hB.last i).2 h), y''_second hB i b s h]

end

/-- A point at which the bodies' counts fall in no bucket, or that is a first tile, leaves the output block as the copy left it. -/
theorem bodyStep_out_keep (t : Fin grid1.N) (n : BitVec 32) (b : Blk F) (s : St F) (h : t.val % 2 = 0 ∨ ∀ B : Bucket F, ¬ Serves B n) :
    (bodyStep (grid1.coords t) n b s).out = if t.val % 16 = 0 then b.x else s.out := by
  by_cases hex : ∃ B : Bucket F, Serves B n
  · obtain ⟨B, hB⟩ := hex
    have h2 : t.val % 2 = 0 := h.resolve_right fun h' => h' B hB
    rw [bodyStep_serves hB]; unfold Bucket.step; rw [if_pos hB.2]
    show B.out' _ _ _ = _
    rw [out'_first hB.ok _ _ _ ((coords1 t).2.2.trans h2), copyStep_out]
  · rw [bodyStep_none fun B hB => hex ⟨B, hB⟩, copyStep_out]

/-- A second tile whose count falls in a bucket: that bucket's scatter into the block. -/
theorem bodyStep_out_second (t : Fin grid1.N) (ht : t.val % 2 = 1) {B : Bucket F} {n : BitVec 32} (hB : Serves B n) (b : Blk F) (s : St F) :
    (bodyStep (grid1.coords t) n b s).out
      = B.scatter (grid1.coords t) b.comb s.out (VecWindow.window b.post (B.offQ (grid1.coords t)) S1x1x1024.size (B.inbQ _ ((hB.ok.last _).2 ((coords1 t).2.2.trans ht))))
        (B.accum (VecWindow.window s.xe ![0, 0] B.d B.inb) b.w1 b.w3 b.w2 (VecWindow.window s.y ![0, 0] B.d B.inb)) := by
  rw [bodyStep_serves hB]; unfold Bucket.step; rw [if_pos hB.2]
  show B.out' _ _ _ = _
  rw [out'_second hB.ok _ _ _ ((coords1 t).2.2.trans ht), copyStep_xe, copyStep_y, copyStep_out, if_neg (by omega)]

/-- A first tile whose count falls in a bucket: the gathered rows and their results. -/
theorem bodyStep_first (t : Fin grid1.N) (ht : t.val % 2 = 0) {B : Bucket F} {n : BitVec 32} (hB : Serves B n) (b : Blk F) (s : St F) :
    VecWindow.window (bodyStep (grid1.coords t) n b s).xe ![0, 0] B.d B.inb
        = B.gather (VecWindow.window b.post (B.offP (grid1.coords t)) S1x1x1024.size (B.inbP _ ((hB.ok.first _).2 ((coords1 t).2.2.trans ht)))) b.xn
      ∧ VecWindow.window (bodyStep (grid1.coords t) n b s).y ![0, 0] B.d B.inb
        = B.hidden (B.gather (VecWindow.window b.post (B.offP (grid1.coords t)) S1x1x1024.size (B.inbP _ ((hB.ok.first _).2 ((coords1 t).2.2.trans ht)))) b.xn) b.w1 b.w3 b.w2 := by
  rw [bodyStep_serves hB]; unfold Bucket.step; rw [if_pos hB.2]
  exact ⟨xe'_first hB.ok _ _ _ ((coords1 t).2.2.trans ht), y''_first hB.ok _ _ _ ((coords1 t).2.2.trans ht)⟩

/-- A point takes agreeing states to agreeing states; the count at a second tile is the one at the tile before it. -/
theorem Agree.step (t : Fin grid1.N) {n n' : BitVec 32} (hn : t.val % 2 = 0 → n' = n) (b : Blk F) {s s' : St F} (h : Agree t.val n s s') :
    (bodyStep (grid1.coords t) n b s).out = (bodyStep (grid1.coords t) n b s').out
      ∧ Agree (t.val + 1) n' (bodyStep (grid1.coords t) n b s) (bodyStep (grid1.coords t) n b s') := by
  have ho : (bodyStep (grid1.coords t) n b s).out = (bodyStep (grid1.coords t) n b s').out := by
    by_cases hk : t.val % 2 = 0 ∨ ∀ B : Bucket F, ¬ Serves B n
    · rw [bodyStep_out_keep t n b s hk, bodyStep_out_keep t n b s' hk]
      split
      · rfl
      · exact h.1 (by omega)
    · have h2 : t.val % 2 = 1 := by
        by_contra hc; exact hk (.inl (by omega))
      have hex : ∃ B : Bucket F, Serves B n := by
        by_contra hc; exact hk (.inr fun B hB => hc ⟨B, hB⟩)
      obtain ⟨B, hB⟩ := hex
      rw [bodyStep_out_second t h2 hB, bodyStep_out_second t h2 hB, (h.2 h2 B hB).1, (h.2 h2 B hB).2, h.1 (by omega)]
  refine ⟨ho, fun _ => ho, fun h1 B hB => ?_⟩
  have h0 : t.val % 2 = 0 := by omega
  rw [hn h0] at hB
  rw [(bodyStep_first t h0 hB b s).1, (bodyStep_first t h0 hB b s').1, (bodyStep_first t h0 hB b s).2, (bodyStep_first t h0 hB b s').2]
  exact ⟨rfl, rfl⟩

/-- States agree with themselves. -/
theorem Agree.refl (k : ℕ) (n : BitVec 32) (s : St F) : Agree k n s s := ⟨fun _ => rfl, fun _ _ _ => ⟨rfl, rfl⟩⟩

/-- The count read at a second tile is the one read at the first. -/
theorem count_succ (T : Vec F S512 .i32) (t t' : Fin grid1.N) (h : t'.val = t.val + 1) (ht : t.val % 2 = 0) : count T (grid1.coords t') = count T (grid1.coords t) := by
  have e : k1_off1 (grid1.coords t') = k1_off1 (grid1.coords t) := by
    unfold k1_off1
    rw [(coords1 t').1, (coords1 t').2.1, (coords1 t).1, (coords1 t).2.1, h]
    rw [show (t.val + 1) / 16 = t.val / 16 by omega, show (t.val + 1) % 16 / 2 = t.val % 16 / 2 by omega]
  unfold count
  congr 1
  funext a
  exact Fin.ext (congrFun e a)

end Cert.KernelIdeal.Moe

end
-- ==== Proof.Region.lean ====
module

public import proofs.«01_k».proof.Proof.Trajectory
public import proofs.«01_k».proof.Proof.Gen.KernelIdeal.Regions

/-!
# The experts' call: its proof data and its body obligation

At any contents of the table of counts and any contents of the arrays, what the output block holds
after each point is the trajectory `tr` of `Trajectory.lean`; the invariant holds the table, the two
scratch buffers at contents that agree with the trajectory, and the scoped buffers the call does not
touch.
-/

@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

variable (𝒱₀ : Variants) (a : (pcfg1 (F := F)).Adm) (V : (c : Dev nD) → (b : Ref sig .tc) → Buf (Elt F) ((c : Thread nD τ).loc b)) (D : Dev nD → CellTallies nD τ sig Ix)

/-- Window `w`'s block at point `t`, read off its array as the region finds it. -/
def iblk (c : Dev nD) (w : Fin (cfg1 a).W) (t : Fin (cfg1 a).N) : (((cfg1 a).win w).xblock ((cfg1 a).grid.coords t)).Idx → Elt F ((cfg1 a).win w).elt :=
  (((cfg1 a).win w).blk t).view.read (Elt F) (V c (Pipeline.arrRef spec1 w))

/-- The table of counts. -/
def table : Vec F S512 .i32 := a.1 0

/-- The blocks of point `t`. -/
def blks (c : Dev nD) (t : Fin grid1.N) : Blk F :=
  ⟨iblk a V c 0 t, iblk a V c 1 t, iblk a V c 2 t, iblk a V c 3 t, iblk a V c 4 t, iblk a V c 5 t, iblk a V c 6 t⟩

/-- The count at point `k` (past the grid, anything). -/
def cnt (k : ℕ) : BitVec 32 := if h : k < grid1.N then count (table a) (grid1.coords ⟨k, h⟩) else 0#32

/-- Some element. -/
def anyElt (e : EltTy) : Elt F e := ((inferInstance : ∀ e, Nonempty (Elt F e)) e).some

/-- The trajectory of the states: from anything, one body after another. -/
def tr (c : Dev nD) : ℕ → St F
  | 0 => ⟨fun _ => anyElt _, fun _ => anyElt _, fun _ => anyElt _⟩
  | k + 1 => if h : k < grid1.N then bodyStep (grid1.coords ⟨k, h⟩) (cnt a k) (blks a V c ⟨k, h⟩) (tr c k) else tr c k

theorem tr_succ (c : Dev nD) (t : Fin grid1.N) : tr a V c (t.val + 1) = bodyStep (grid1.coords t) (cnt a t.val) (blks a V c t) (tr a V c t.val) := by
  rw [tr, dif_pos t.isLt]

theorem cnt_at (t : Fin grid1.N) : cnt a t.val = count (table a) (grid1.coords t) := dif_pos t.isLt

theorem cnt_succ (t : Fin grid1.N) (ht : t.val % 2 = 0) : cnt a (t.val + 1) = cnt a t.val := by
  have hN : grid1.N = 1024 := N_1
  have h := t.isLt
  have h' : t.val + 1 < grid1.N := by omega
  rw [cnt_at, show cnt a (t.val + 1) = count (table a) (grid1.coords ⟨t.val + 1, h'⟩) from dif_pos h']
  exact count_succ (table a) t ⟨t.val + 1, h'⟩ rfl ht

/-! ## Where the output block is not written -/

/-- The count as the schedule of the output window reads it. -/
theorem atD_eq (i : grid1.Coords) : a.1.atD 0 (k1_off1 i) = count (table a) i := by
  unfold Pipeline.Prefetch.Contents.atD
  exact (dif_pos fun x => count_lt i x).trans rfl

theorem idle_facts (t : Fin grid1.N) (h : (cfg1 a).idle 7 (grid1.coords t) = true) :
    t.val % 16 ≠ 0 ∧ ∀ (b : Blk F) (s : St F), (bodyStep (grid1.coords t) (cnt a t.val) b s).out = s.out := by
  have h' : idle1 a.1 7 (grid1.coords t) = true := h
  simp only [idle1, Bool.and_eq_true, Bool.not_eq_true', Bool.and_eq_false_iff, beq_eq_false_iff_ne, ne_eq] at h'
  obtain ⟨⟨⟨⟨⟨⟨h0, h1⟩, h2⟩, h3⟩, h4⟩, h5⟩, h6⟩ := h'
  have hat := atD_eq a (grid1.coords t)
  have hk : t.val % 16 ≠ 0 := fun e => h0 ((copy_iff t).2 e)
  refine ⟨hk, fun b s => ?_⟩
  by_cases ht : t.val % 2 = 0
  · rw [bodyStep_out_keep t _ b s (.inl ht), if_neg hk]
  · have hl : ∀ {B : Bucket F}, B.Ok → B.last (grid1.coords t) = 1#1 := fun hB => (hB.last _).2 ((coords1 t).2.2.trans (by omega))
    rw [bodyStep_out_keep t _ b s (.inr ?_), if_neg hk]
    intro B hB
    rw [cnt_at] at hB
    have hlast := hl hB.ok
    obtain ⟨hB, hlive⟩ := hB
    rcases hB with rfl | rfl | rfl | rfl | rfl | rfl
    · exact h1.elim (fun e => e ((congrArg k1_cond2 hat).trans hlive)) fun e => e hlast
    · exact h2.elim (fun e => e ((congrArg k1_cond7 hat).trans hlive)) fun e => e hlast
    · exact h3.elim (fun e => e ((congrArg k1_cond12 hat).trans hlive)) fun e => e hlast
    · exact h4.elim (fun e => e ((congrArg k1_cond17 hat).trans hlive)) fun e => e hlast
    · exact h5.elim (fun e => e ((congrArg k1_cond22 hat).trans hlive)) fun e => e hlast
    · exact h6.elim (fun e => e ((congrArg k1_cond27 hat).trans hlive)) fun e => e hlast

theorem flush7 (t : Fin grid1.N) : ((cfg1 a).win 7).flush t = decide (t.val % 16 = 15) := flush1 t

theorem fresh7 : ∀ n, n ≤ (cfg1 a).N → (cfg1 a).fresh 7 n = decide (n % 16 = 0) :=
  (cfg1 a).fresh_tab 7 (fun n => decide (n % 16 = 0)) rfl fun t => by
    change decide ((t.val + 1) % 16 = 0) = (((cfg1 a).win 7).flush t || ((cfg1 a).idle 7 (grid1.coords t) && decide (t.val % 16 = 0)))
    rw [flush7]
    by_cases h15 : t.val % 16 = 15
    · rw [decide_eq_true h15, decide_eq_true (by omega : (t.val + 1) % 16 = 0)]; rfl
    · rw [decide_eq_false h15, decide_eq_false (by omega : ¬ (t.val + 1) % 16 = 0), Bool.false_or]
      by_cases h0 : t.val % 16 = 0
      · rw [decide_eq_true h0, Bool.and_true]
        cases hi : (cfg1 a).idle 7 (grid1.coords t)
        · rfl
        · exact absurd h0 (idle_facts a t hi).1
      · rw [decide_eq_false h0, Bool.and_false]

/-! ## The proof data -/

/-- The scoped buffers that the call does not touch. -/
def idleBufs (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

/-- The scoped buffers no window stages are those and the two scratch buffers. -/
theorem scoped_eq (c : Dev nD) :
    (Pipeline.scopedRest (Ix := Ix) (Name := ℕ) (U := U) (Lvl := Lvl) (Val := Elt F) spec1 c : sProp 𝕄)
      ⊣⊢ iprop(idleBufs c ∗ (∃ xe, owns (c : Thread nD τ) (Memref.whole cc1_scratch0) fullShare xe) ∗ (∃ y, owns (c : Thread nD τ) (Memref.whole cc1_scratch1) fullShare y)) := by
  rw [scopedRest1_eq]
  simp only [owns_whole]
  unfold idleBufs
  constructor
  · iintro ⟨H0, H1, H2, H3, H4, H5, H6, H7, H8, H9, H10, H11, H12, H13⟩
    isplitl [H0 H1 H2 H3 H4 H5 H6 H7 H8 H9 H10 H11]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      iexact H11
    isplitl [H12]; · iexact H12
    iexact H13
  · iintro ⟨⟨H0, H1, H2, H3, H4, H5, H6, H7, H8, H9, H10, H11⟩, H12, H13⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

/-- The invariant before point `k`. -/
def inv (c : Dev nD) (k : ℕ) : sProp 𝕄 :=
  iprop((∃ r, prngReg c r) ∗ owns (c : Thread nD τ) (Memref.whole main_v9) fullShare (table a) ∗ idleBufs c
    ∗ ∃ xe, ∃ y, ⌜Agree k (cnt a k) ⟨(tr a V c k).out, xe, y⟩ (tr a V c k)⌝
        ∗ owns (c : Thread nD τ) (Memref.whole cc1_scratch0) fullShare xe ∗ owns (c : Thread nD τ) (Memref.whole cc1_scratch1) fullShare y)

def dat (c : Dev nD) : Dat τ (Elt F) Ix ℕ U Lvl (cfg1 a) c where
  A w := V c (Pipeline.arrRef spec1 w)
  after w t := match w with
    | ⟨0, _⟩ => iblk a V c 0 t
    | ⟨1, _⟩ => iblk a V c 1 t
    | ⟨2, _⟩ => iblk a V c 2 t
    | ⟨3, _⟩ => iblk a V c 3 t
    | ⟨4, _⟩ => iblk a V c 4 t
    | ⟨5, _⟩ => iblk a V c 5 t
    | ⟨6, _⟩ => iblk a V c 6 t
    | ⟨7, _⟩ => (tr a V c (t.val + 1)).out
  Φ t := inv (Ix := Ix) (U := U) (Lvl := Lvl) a V c t.val
  q _ := fullShare
  owed _ := D c

variable (ι : Ix)

local notation "𝕕" => dat (Ix := Ix) (U := U) (Lvl := Lvl) a V D

theorem A_eq (c : Dev nD) (w : Fin (cfg1 a).W) : (𝕕 c).A w = V c (Pipeline.arrRef spec1 w) := by
  dsimp only [dat]

theorem after_0 (c : Dev nD) (t : Fin (cfg1 a).N) : (𝕕 c).after 0 t = iblk a V c 0 t := rfl
theorem after_1 (c : Dev nD) (t : Fin (cfg1 a).N) : (𝕕 c).after 1 t = iblk a V c 1 t := rfl
theorem after_2 (c : Dev nD) (t : Fin (cfg1 a).N) : (𝕕 c).after 2 t = iblk a V c 2 t := rfl
theorem after_3 (c : Dev nD) (t : Fin (cfg1 a).N) : (𝕕 c).after 3 t = iblk a V c 3 t := rfl
theorem after_4 (c : Dev nD) (t : Fin (cfg1 a).N) : (𝕕 c).after 4 t = iblk a V c 4 t := rfl
theorem after_5 (c : Dev nD) (t : Fin (cfg1 a).N) : (𝕕 c).after 5 t = iblk a V c 5 t := rfl
theorem after_6 (c : Dev nD) (t : Fin (cfg1 a).N) : (𝕕 c).after 6 t = iblk a V c 6 t := rfl
theorem after_7 (c : Dev nD) (t : Fin (cfg1 a).N) : (𝕕 c).after 7 t = (tr a V c (t.val + 1)).out := rfl

/-- An input's staging buffer holds its block at every point. -/
theorem before_0 (c : Dev nD) (t : Fin (cfg1 a).N) (d) : (𝕕 c).before 0 t d = iblk a V c 0 t :=
  ((𝕕 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin (cfg1 a).N) (d) : (𝕕 c).before 1 t d = iblk a V c 1 t :=
  ((𝕕 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin (cfg1 a).N) (d) : (𝕕 c).before 2 t d = iblk a V c 2 t :=
  ((𝕕 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin (cfg1 a).N) (d) : (𝕕 c).before 3 t d = iblk a V c 3 t :=
  ((𝕕 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin (cfg1 a).N) (d) : (𝕕 c).before 4 t d = iblk a V c 4 t :=
  ((𝕕 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin (cfg1 a).N) (d) : (𝕕 c).before 5 t d = iblk a V c 5 t :=
  ((𝕕 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)
theorem before_6 (c : Dev nD) (t : Fin (cfg1 a).N) (d) : (𝕕 c).before 6 t d = iblk a V c 6 t :=
  ((𝕕 c).before_in_eq_fetched 6 rfl (fun _ => rfl) (fun _ _ _ => rfl) (fun t => by rw [after_6]; unfold Dat.blockOf iblk; rw [A_eq]; try rfl) t d).trans
    (by unfold Dat.fetched Dat.blockOf iblk; rw [A_eq]; try rfl)

theorem before_7 (c : Dev nD) (t : Fin (cfg1 a).N) (d) : (𝕕 c).before 7 t d = if t.val % 16 = 0 then d else (tr a V c t.val).out := by
  have h := (𝕕 c).before_out_traj 7 rfl (fun _ _ => rfl) (fun t h0 hi hf => by
    rw [after_7, after_7]
    have e := tr_succ a V c t
    rw [e, (idle_facts a t hi).2, show t.val - 1 + 1 = t.val by omega]) t.val t rfl d
  have hf := fresh7 a t.val (Nat.le_of_lt t.isLt)
  by_cases h0 : t.val % 16 = 0
  · exact h.trans ((if_pos (hf.trans (decide_eq_true h0))).trans (if_pos h0).symm)
  · refine h.trans ((if_neg (by rw [hf, decide_eq_false h0]; exact Bool.false_ne_true)).trans (Eq.trans ?_ (if_neg h0).symm))
    show (tr a V c (t.val - 1 + 1)).out = _
    rw [show t.val - 1 + 1 = t.val by omega]

/-! ## The body obligation -/

abbrev ms (w : Fin (cfg1 a).W) (t : Fin (cfg1 a).N) := ((cfg1 a).win w).stage ((cfg1 a).slots t w)

/-- The body at point `t`, on the staging buffers of its slots. -/
def bodyAt1 (t : Fin (cfg1 a).N) : Prog (TpuEff nD τ sig (Elt F) Λ₀ .tc) PUnit :=
  defs₀ .tc (cfg1 a).body ((cfg1 a).bodyArgs t ((cfg1 a).slots t))

theorem bodyAt1_eq (t : Fin (cfg1 a).N) : bodyAt1 a t =
    cc1_moe_experts (grid1.coords t) (Memref.whole main_v9) (Memref.isWhole_whole _) (ms a 0 t) (hstage1_0 (((cfg1 a).slots t 0).cast nbuf1_0)) (ms a 1 t) (hstage1_1 (((cfg1 a).slots t 1).cast nbuf1_1)) (ms a 2 t) (hstage1_2 (((cfg1 a).slots t 2).cast nbuf1_2)) (ms a 3 t) (hstage1_3 (((cfg1 a).slots t 3).cast nbuf1_3)) (ms a 4 t) (hstage1_4 (((cfg1 a).slots t 4).cast nbuf1_4)) (ms a 5 t) (hstage1_5 (((cfg1 a).slots t 5).cast nbuf1_5)) (ms a 6 t) (hstage1_6 (((cfg1 a).slots t 6).cast nbuf1_6)) (ms a 7 t) (hstage1_7 (((cfg1 a).slots t 7).cast nbuf1_7)) (Memref.whole cc1_scratch0) (Memref.isWhole_whole _) (Memref.whole cc1_scratch1) (Memref.isWhole_whole _) := by
  unfold bodyAt1 defs₀; rw [Defs.onTc_tc]; rfl

/-- What the body leaves in the output's buffer, as the obligation has it there. -/
def left7 (c : Dev nD) (t : Fin (cfg1 a).N) : sProp 𝕄 :=
  match (cfg1 a).idle 7 (grid1.coords t) with
  | true => match ((cfg1 a).win 7).flush t with
    | false => iprop(∃ d, owns (c : Thread nD τ) (ms a 7 t) fullShare ((𝕕 c).before 7 t d))
    | true => owns (c : Thread nD τ) (ms a 7 t) fullShare ((𝕕 c).after 7 t)
  | false => owns (c : Thread nD τ) (ms a 7 t) fullShare ((𝕕 c).after 7 t)

theorem left7_intro (c : Dev nD) (t : Fin (cfg1 a).N) :
    (owns (c : Thread nD τ) (ms a 7 t) fullShare ((tr a V c (t.val + 1)).out) : sProp 𝕄) ⊢ left7 a V D c t := by
  unfold left7
  cases hi : (cfg1 a).idle 7 (grid1.coords t)
  · exact .rfl
  · cases ((cfg1 a).win 7).flush t
    · have e := idle_facts a t hi
      have hb : (𝕕 c).before 7 t (fun _ => anyElt _) = (tr a V c (t.val + 1)).out :=
        (before_7 a V D c t _).trans ((if_neg e.1).trans ((congrArg St.out (tr_succ a V c t)).trans (e.2 _ _)).symm)
      iintro H
      iexists (fun _ => anyElt _)
      rw [hb]
      iexact H
    · exact .rfl

def bodyPre (c : Dev nD) (t : Fin (cfg1 a).N) : sProp 𝕄 :=
  iprop((𝕕 c).Φ t.castSucc ∗ (𝕕 c).owesAt ι t.castSucc
    ∗ (∃ d, owns (c : Thread nD τ) (ms a 0 t) fullShare ((𝕕 c).before 0 t d))
    ∗ (∃ d, owns (c : Thread nD τ) (ms a 1 t) fullShare ((𝕕 c).before 1 t d))
    ∗ (∃ d, owns (c : Thread nD τ) (ms a 2 t) fullShare ((𝕕 c).before 2 t d))
    ∗ (∃ d, owns (c : Thread nD τ) (ms a 3 t) fullShare ((𝕕 c).before 3 t d))
    ∗ (∃ d, owns (c : Thread nD τ) (ms a 4 t) fullShare ((𝕕 c).before 4 t d))
    ∗ (∃ d, owns (c : Thread nD τ) (ms a 5 t) fullShare ((𝕕 c).before 5 t d))
    ∗ (∃ d, owns (c : Thread nD τ) (ms a 6 t) fullShare ((𝕕 c).before 6 t d))
    ∗ (∃ d, owns (c : Thread nD τ) (ms a 7 t) fullShare ((𝕕 c).before 7 t d)))

def bodyPost (c : Dev nD) (t : Fin (cfg1 a).N) : sProp 𝕄 :=
  iprop((𝕕 c).Φ t.succ ∗ (𝕕 c).owesAt ι t.succ
    ∗ owns (c : Thread nD τ) (ms a 0 t) fullShare ((𝕕 c).after 0 t)
    ∗ owns (c : Thread nD τ) (ms a 1 t) fullShare ((𝕕 c).after 1 t)
    ∗ owns (c : Thread nD τ) (ms a 2 t) fullShare ((𝕕 c).after 2 t)
    ∗ owns (c : Thread nD τ) (ms a 3 t) fullShare ((𝕕 c).after 3 t)
    ∗ owns (c : Thread nD τ) (ms a 4 t) fullShare ((𝕕 c).after 4 t)
    ∗ owns (c : Thread nD τ) (ms a 5 t) fullShare ((𝕕 c).after 5 t)
    ∗ owns (c : Thread nD τ) (ms a 6 t) fullShare ((𝕕 c).after 6 t)
    ∗ left7 a V D c t)

set_option maxHeartbeats 2000000 in
/-- The body at any point takes the invariant to the next one and leaves the trajectory's block. -/
theorem sound_body (c : Dev nD) (t : Fin (cfg1 a).N) :
    bodyPre (U := U) (Lvl := Lvl) a V D ι c t ⊢ wp frame (wpE (defs₀ (F := F)) 𝒱₀ c none) Set.univ (bodyAt1 a t) (fun _ => bodyPost (U := U) (Lvl := Lvl) a V D ι c t) := by
  unfold bodyPre bodyPost
  rw [bodyAt1_eq]
  simp only [before_0, before_1, before_2, before_3, before_4, before_5, before_6, before_7]
  rw [show (𝕕 c).Φ t.succ = inv a V c (t.val + 1) from rfl, show (𝕕 c).Φ t.castSucc = inv a V c t.val from rfl,
    show (𝕕 c).owesAt ι t.succ = (𝕕 c).owesAt ι t.castSucc from rfl,
    after_0, after_1, after_2, after_3, after_4, after_5, after_6]
  unfold inv
  iintro ⟨⟨Hp, Ht, Hi, ⟨%xe, %y, %hag, Hx, Hy⟩⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have hag' : Agree t.val (cnt a t.val) ⟨if t.val % 16 = 0 then d7 else (tr a V c t.val).out, xe, y⟩ (tr a V c t.val) :=
    ⟨fun h => if_neg h, hag.2⟩
  have hst := hag'.step t (n' := cnt a (t.val + 1)) (cnt_succ a t) (blks a V c t)
  rw [← tr_succ] at hst
  iapply (body_wp (grid1.coords t) (Memref.whole main_v9) (Memref.isWhole_whole _) _ _ _ _ _ _ _ _ _ _ _ _ _ _ _ _ (Memref.whole cc1_scratch0) (Memref.isWhole_whole _) (Memref.whole cc1_scratch1) (Memref.isWhole_whole _) 𝒱₀ c (table a) fullShare (blks a V c t)
    ⟨if t.val % 16 = 0 then d7 else (tr a V c t.val).out, xe, y⟩ Set.univ _)
  unfold ins sts
  isplitl [Ht]; · iexact Ht
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  isplitl [H7 Hx Hy]
  · isplitl [H7]; · iexact H7
    isplitl [Hx]; · iexact Hx
    iexact Hy
  rw [← cnt_at]
  iintro ⟨Ht, ⟨H0, H1, H2, H3, H4, H5, H6⟩, ⟨H7, Hx, Hy⟩⟩
  isplitl [Hp Ht Hi Hx Hy]
  · isplitl [Hp]; · iexact Hp
    isplitl [Ht]; · iexact Ht
    isplitl [Hi]; · iexact Hi
    iexists _; iexists _
    isplitr
    swap
    · isplitl [Hx]; · iexact Hx
      iexact Hy
    ipureintro
    refine ⟨fun _ => rfl, hst.2.2⟩
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iapply (left7_intro a V D c t)
  rw [← hst.1]
  iexact H7

/-- The library's body obligation, at every point. -/
theorem body_obligation (c : Dev nD) : BodyObligation (𝕕 c) (defs₀ (F := F)) 𝒱₀ ι Set.univ := fun t => by
  rw [bigSep_W1, bigSep_W1]
  exact triple_restated (sound_body (U := U) (Lvl := Lvl) 𝒱₀ a V D ι c t) rfl .rfl fun _ => .rfl

end Cert.KernelIdeal.Moe

end
-- ==== Proof.Run.lean ====
module

public import proofs.«01_k».proof.Proof.Region
public import proofs.«01_k».proof.Proof.Gen.Own.KernelIdeal.RegionsD
public import Idealize.ShloMosaic.Lib.Pipeline.RegionArraysTS
public import Idealize.ShloMosaic.Lib.Pipeline.Kit

/-!
# The run of the two calls

The routing call leaves four arrays; from the last of them the host makes the table of counts, and
the experts' call runs under that table. The whole run, for any float values: every argument as
launched, the result at what the experts' call's proof data leave, every counter at zero.
-/

@[expose] public section

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

/-- The run's algebra: the pipelines' own. -/
abbrev UU : Type := UR sig nD τ

local notation "𝕄" => MT nD τ sig Unit (Elt F) ℕ UU ℕ

variable (m : (ℓ : Loc nD τ sig) → Buf (Elt F) ℓ)

/-- No core owes another anything. -/
abbrev noDue : Dev nD → CellTallies nD τ sig Unit := fun _ => 0

/-- The routing call's proof data, from the launch. -/
def dat0 (c : Dev nD) : Dat τ (Elt F) Unit ℕ UU ℕ cfg0 c := Own.K0.dat Variants.none (Own.Ve0 m) noDue c

/-- What the routing call leaves, named as the frame names it. -/
def outsA : Outs (F := F) := fun _ r c => Pipeline.afterRegion (dat0 m c) (V3 m c) (Proc.devRef .tc r)

/-- The tables' contents: none for the routing call, the counts for the experts' call. -/
def adm : (p : Fin 2) → (pcfgs (F := F) p).Adm
  | ⟨0, _⟩ => cfg0.toPCfg_adm
  | ⟨1, _⟩ => ⟨fun k => V5 m (outsA m) 0 (Proc.devRef .tc ((pcfg1 (F := F)).pre.ref k)), trivial⟩

/-- The contents the experts' call is entered at. -/
abbrev Ve1 (c : Dev nD) (b : Ref sig .tc) : Buf (Elt F) ((c : Thread nD τ).loc b) := V5 m (outsA m) c (Proc.devRef .tc b)

/-- The experts' call's proof data, from the launch. -/
def dat1 (c : Dev nD) : Dat τ (Elt F) Unit ℕ UU ℕ (cfg1 (adm m 1)) c := dat (adm m 1) (Ve1 m) noDue c

/-- What the two calls leave. -/
def outs : Outs (F := F)
  | 6, r, c => Pipeline.afterRegion (dat1 m c) (V5 m (outsA m) c) (Proc.devRef .tc r)
  | _, r, c => Pipeline.afterRegion (dat0 m c) (V3 m c) (Proc.devRef .tc r)

/-- The two calls' proof data. -/
def pdats : (p : Fin 2) → (c : Dev nD) → Dat τ (Elt F) Unit ℕ UU ℕ (Pipeline.pin (pcfgs (F := F)) (adm m) p) c
  | ⟨0, _⟩ => fun c => dat0 m c
  | ⟨1, _⟩ => fun c => dat1 m c

/-- The two calls' proof data, the routing call's as generated. -/
abbrev pdatsF : (p : Fin 2) → (c : Dev nD) → Dat τ (Elt F) Unit ℕ UU ℕ (Pipeline.pin (pcfgs (F := F)) (adm m) p) c :=
  Own.pdatsD m (outs m) Variants.none (adm m) (pdats m) noDue

theorem V4_outs (c : Dev nD) : V4 m (outs m) c = V4 m (outsA m) c := rfl
theorem V5_outs (c : Dev nD) : V5 m (outs m) c = V5 m (outsA m) c := rfl

/-- What rides beside the buffers: the random-number register and the core's (empty) dues. -/
def rest (c : Dev nD) : sProp 𝕄 := iprop((∃ r, prngReg c r) ∗ (∃ W, owes (c : Thread nD τ) (0 : CellTallies nD τ sig Unit) W))

/-- One level, on the TensorCores' semaphores. -/
def lev : GSem nD τ sig → Finset Unit := fun g => if g.1.2 = .tc then {()} else ∅
abbrev lv : GSem nD τ sig → Unit → ℕ := fun _ _ => 0

theorem cut (p : Fin 2) : Pipeline.LevelCut (pcfgs (F := F)) (adm m) () lev lv p noDue (fun _ => 0) where
  hι c w s := by simp [lev]
  hιb c w s := le_refl _
  hD {c g i} h := absurd h (lt_irrefl _)

theorem out_at (c : Dev nD) (w : Fin cfg0.W) :
    Pipeline.afterRegion (dat0 m c) (V3 m c) (Proc.devRef .tc (Pipeline.arrRef spec0 w)) = (dat0 m c).arrAt w cfg0.N :=
  Pipeline.afterRegion_arr (dat0 m c) (V3 m c) (launch0 (F := F)).win.arr_inj w

/-- The one table, held whole. -/
theorem one_table (c : Dev nD) :
    (Pipeline.tablesAt (Ix := Unit) (Name := ℕ) (U := UU) (Lvl := ℕ) (pcfgs (F := F)) (adm m) 1 c : sProp 𝕄)
      ⊣⊢ owns (c : Thread nD τ) (Memref.whole main_v9) fullShare (table (adm m 1)) := by
  unfold Pipeline.tablesAt Pipeline.prefHeld
  rw [owns_whole]
  have e := bigSep_singleton (i := (0 : Fin 1)) (Φ := fun k => ((c.tc.loc ((pcfgs (F := F) 1).pre.ref k) ↦{fullShare} (adm m 1).1 k : sProp 𝕄)))
  exact ⟨Entails.of_eq e, Entails.of_eq e.symm⟩

set_option backward.isDefEq.respectTransparency.types false in
/-- The experts' call as a segment, over every unscoped buffer. -/
def R1 : RegionSeg (pcfgs (F := F)) (adm m) (pdatsF m) () defs₀ Variants.none lev lv 1 :=
  Pipeline.RegionSeg.ofHeldInT (pcfgs (F := F)) (adm m) (pdatsF m) () defs₀ Variants.none lev lv 1 noDue
    (Pipeline.ucRefs τ sig) (fun c => iprop(∃ r, prngReg c r)) (fun c => iprop(∃ r, prngReg c r))
    launch1 (fun c => (body_obligation Variants.none (adm m 1) (Ve1 m) noDue () c).loose) (fun _ _ => rfl) (fun _ => rfl)
    (fun c => (dat1 m c).share_full fun _ => rfl)
    (fun c => by
      show _ ⊢ inv (adm m 1) (Ve1 m) c 0
      unfold inv
      iintro ⟨⟨Hs, Hp⟩, Ht⟩
      ihave Hs' := (scoped_eq c).1 $$ Hs
      icases Hs' with ⟨Hi, ⟨%xe, Hx⟩, ⟨%y, Hy⟩⟩
      isplitl [Hp]; · iexact Hp
      isplitl [Ht]
      · iapply (one_table m c).1
        iexact Ht
      isplitl [Hi]; · iexact Hi
      iexists xe, y
      isplitr
      · ipureintro
        exact ⟨fun h => absurd rfl h, fun h => absurd h (by decide)⟩
      isplitl [Hx] <;> iassumption)
    (fun c => by
      show inv (adm m 1) (Ve1 m) c _ ⊢ _
      unfold inv
      iintro ⟨Hp, Ht, Hi, ⟨%xe, %y, -, Hx, Hy⟩⟩
      isplitr [Ht]
      · isplitr [Hp]
        · iapply (scoped_eq c).2
          isplitl [Hi]; · iexact Hi
          isplitl [Hx]
          · iexists xe; iexact Hx
          · iexists y; iexact Hy
        · iexact Hp
      · iapply (one_table m c).2
        iexact Ht)
    (fun _ => 0) (cut (F := F) m 1) (fun _ => iprop(emp)) (V5 m (outsA m)) (fun c w => rfl)
    (fun c k => by obtain rfl : c = 0 := Subsingleton.elim _ _; rfl)

/-- After the experts' call the frame's last valuation is what the call leaves. -/
theorem V6_eq (c : Dev nD) : ∀ b ∈ Pipeline.ucRefs τ sig, Pipeline.afterRegion (dat1 m c) (V5 m (outsA m) c) b = V6 m (outs m) c b := by
  intro b hb
  obtain ⟨r, -, rfl⟩ := Finset.mem_map.mp (Finset.mem_filter.mp hb).1
  by_cases h : r = main_v10
  · subst h
    have e : V6 m (outs m) c (Proc.devRef .tc main_v10) = outs m 6 main_v10 c := by simp only [V6, Function.update_self]
    exact e.symm
  · refine (Pipeline.afterRegion_keeps (dat1 m c) (V5 m (outsA m) c) (launch1 (F := F)).win.arr_inj (fun w => A_eq _ _ _ c w) r ?_).trans
      (V6_of m (outs m) c r (by simpa using h)).symm
    intro w hw
    have hall : ∀ w : Fin 8, Pipeline.arrRef spec1 w ≠ main_v10 → (spec1 w).isOut = false := by decide
    exact hall w (fun e => h (hw.symm.trans e))

theorem arrs_sub : Pipeline.arrRefs (τ := τ) (pcfgs (F := F) 1).spec ⊆ Pipeline.ucRefs τ sig := Pipeline.arrRefs_sub_ucRefs spec1 (by decide)
theorem tbls_sub : Pipeline.tblRefs (τ := τ) (pcfgs (F := F) 1).pre ⊆ Pipeline.ucRefs τ sig := Pipeline.tblRefs_sub_ucRefs _ (launch1 (F := F)).pre.unscoped

theorem hpre1 (c : Dev nD) :
    iprop(StableHlo.held (c : Thread nD τ) (Pipeline.ucRefs τ sig) (V5 m (outs m) c) ∗ rest c) ⊢ (R1 m).pre c := by
  rw [V5_outs]
  unfold R1
  refine BI.Entails.trans ?_ (RegionSeg.ofHeldInT_pre (arrs_sub (F := F)) (tbls_sub (F := F)) c)
  unfold rest
  show iprop(StableHlo.held (c : Thread nD τ) (Pipeline.ucRefs τ sig) (V5 m (outsA m) c) ∗ (∃ r, prngReg c r) ∗ (∃ W, owes (c : Thread nD τ) (0 : CellTallies nD τ sig Unit) W) : sProp 𝕄)
    ⊢ iprop(StableHlo.held (c : Thread nD τ) (Pipeline.ucRefs τ sig) (V5 m (outsA m) c) ∗ (∃ W, owes (c : Thread nD τ) (0 : CellTallies nD τ sig Unit) W) ∗ (∃ r, prngReg c r) ∗ emp)
  iintro ⟨Hh, Hp, HO⟩
  isplitl [Hh]; · iexact Hh
  isplitl [HO]; · iexact HO
  isplitl [Hp]; · iexact Hp
  iempintro

theorem hpost1 (c : Dev nD) :
    (R1 m).post c ⊢ iprop(StableHlo.held (c : Thread nD τ) (Pipeline.ucRefs τ sig) (V6 m (outs m) c) ∗ rest c) := by
  unfold R1
  refine (RegionSeg.ofHeldInT_post (arrs_sub (F := F)) (tbls_sub (F := F)) c).trans ?_
  rw [← StableHlo.held_congr (c : Thread nD τ) (V6_eq m c)]
  unfold rest
  iintro ⟨Hh, HO, Hp, -⟩
  isplitl [Hh]; · iexact Hh
  isplitl [Hp]; · iexact Hp
  iexact HO

/-- The routing call's four outputs are what its proof data leave. -/
theorem leaves (c : Dev nD) (w : Fin cfg0.W) :
    outs m 4 (Pipeline.arrRef spec0 w) c = ((pdatsF m) 0 c).arrAt w cfg0.N := out_at m c w

/-- What the experts' call leaves in the result's array. -/
def result (c : Dev nD) : Buf (Elt F) ((c : Thread nD τ).loc main_v10) := (dat1 m c).arrAt 7 grid1.N

theorem V6_result (c : Dev nD) : V6 m (outs m) c (Proc.devRef .tc main_v10) = result m c := by
  have e : V6 m (outs m) c (Proc.devRef .tc main_v10) = outs m 6 main_v10 c := by simp only [V6, Function.update_self]
  exact e.trans (Pipeline.afterRegion_arr (dat1 m c) (V5 m (outsA m) c) (launch1 (F := F)).win.arr_inj 7)

/-- What a core's final memory shows. -/
def Ends (c : Dev nD) (s : MemSt nD τ sig (Elt F)) : Prop :=
  s.mem ((c.tc : Thread nD τ).loc main_v10) = result m c
    ∧ s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4)
    ∧ s.mem ((c.tc : Thread nD τ).loc main_arg5) = m ((c.tc : Thread nD τ).loc main_arg5)

theorem start (ρ : Dev nD → PrngReg) :
    iprop((bigSep Finset.univ fun c : Dev nD => iprop(unscopedBufs c (fun b => m ((c.tc : Thread nD τ).loc b)) ∗ unscopedSems0 c ∗ owes (c : Thread nD τ) (noDue c) ∅ ∗ Pipeline.launchCred noDue c ∗ prngReg c (ρ c) ∗ emp)) ∗ levAts lev lv)
      ⊢ (|={Set.univ}=> bigSep Finset.univ (fun c : Dev nD => iprop(StableHlo.held (c : Thread nD τ) (Pipeline.ucRefs τ sig) (V0 m c) ∗ rest c)) : sProp 𝕄) := by
  refine Pipeline.initEach lev lv fun c => ?_
  rw [← Pipeline.unscopedBufs_held (Ix := Unit) (Name := ℕ) (U := UU) (Lvl := ℕ) c (V0 m c)]
  unfold rest
  iintro ⟨⟨Hh, -, HO, -, Hp, -⟩, -⟩
  imodintro
  isplitl [Hh]; · iexact Hh
  isplitl [Hp]; · iexists _; iexact Hp
  iexists _; iexact HO

set_option backward.isDefEq.respectTransparency.types false in
/-- For any float values, from any memory with zero counters: the run ends, with the result at what the experts'
    call leaves, every argument as launched and every counter at zero. -/
theorem run_main (ρ : Dev nD → PrngReg) :
    θ_run defs (onTc (τ := τ) (main (F := F))) ⟨m, fun _ => 0, ρ⟩ (fun r => (∀ c : Dev nD, Ends m c r.2) ∧ r.2.sem = fun _ => 0) := by
  refine Pipeline.θ_run_regions_kit_dev_sems (pcfgs (F := F)) (adm m) (pdatsF m) () (cellOf_inj (adm m)) emb₁ defs₀ Variants.none lev lv m ρ main
    (segs m (outs m) Variants.none lev lv (fun _ => rest) () (adm m) (pdatsF m)
      (Own.R0D m (outs m) Variants.none lev lv () (adm m) (pdats m) noDue (fun _ => 0) (cut m 0) (fun _ => iprop(emp))
        (fun c => leaves m c 3) (fun c => leaves m c 4) (fun c => leaves m c 5) (fun c => leaves m c 6)) (R1 m))
    (fun c Q => by
      rewrite [main_chain c, Seg.run_eq_chain,
        show (segs m (outs m) Variants.none lev lv (fun _ => rest) () (adm m) (pdatsF m) _ (R1 m) c).map Seg.prog = [
          StableHlo.seq hostOps0, StableHlo.seq hostOps0_1, StableHlo.seq hostOps0_2,
          Prog.lift (.customCall (Pipeline.entry 0) ()), StableHlo.seq hostOps1,
          Prog.lift (.customCall (Pipeline.entry 1) ()) ] from rfl]
      dsimp (config := { failIfUnchanged := false }) only
      exact .rfl)
    (fun c => by simp only [segs, Seg.pipes_host, Seg.pipes_region, Seg.pipes_nil]; decide) noDue
    (fun g h => by simp only [lev, h, if_false]) (fun _ => iprop(emp))
    (initOf (Pipeline.cells (Pipeline.pin (pcfgs (F := F)) (adm m)) (cellOf_inj (adm m))) (Pipeline.launchToks (Pipeline.pin (pcfgs (F := F)) (adm m)) (cellOf_inj (adm m)))) ?_
    (T₀ := fun c => iprop(StableHlo.held (c : Thread nD τ) (Pipeline.ucRefs τ sig) (V0 m c) ∗ rest c))
    (Tₙ := fun c => StableHlo.held (c : Thread nD τ) (Pipeline.ucRefs τ sig) (V6 m (outs m) c))
    (hch := fun c => ⟨.rfl, .rfl, .rfl,
      Own.hpre0D m (outs m) Variants.none lev lv () (adm m) (pdats m) noDue (fun _ => 0) (cut m 0) (fun _ => rest) (fun _ => iprop(emp)) ?_ _ _ _ _ c,
      Own.hpost0D m (outs m) Variants.none lev lv () (adm m) (pdats m) noDue (fun _ => 0) (cut m 0) (fun _ => rest) (fun _ => iprop(emp)) ?_ _ _ _ _ c,
      hpre1 m c, (hpost1 m c).trans (sep_mono .rfl ?_)⟩)
    (hinit := start m ρ) (QY := Ends m)
    (hfin := fun c s' => ?_) (hQ := fun _ h hz => ⟨h, funext fun g => hz g (.inr (regions_no_unscoped g.2))⟩)
  · iintro Hu
    ihave H := (Entails.of_eq (ownU_emb₁ _)) $$ Hu
    imodintro
    isplitl [H]; · iexact H
    iapply (show (BI.emp : sProp 𝕄) ⊢ bigSep Finset.univ (fun _ : Dev nD => (BI.emp : sProp 𝕄)) from by rw [BI.bigSep_emp_const])
    iempintro
  · intro c
    unfold rest
    iintro ⟨Hp, HO⟩
    isplitl [Hp]; · iexact Hp
    isplitl [HO]; · iexact HO
    iempintro
  · intro c
    unfold rest
    iintro ⟨Hp, HO, -⟩
    isplitl [Hp]; · iexact Hp
    iexact HO
  · unfold rest
    iintro ⟨-, HO⟩
    iexact HO
  · unfold StableHlo.held
    iintro ⟨Hh, HSI⟩
    ihave Hr := (pointsTo_read_all (Pipeline.ucRefs τ sig) (fun b => ((c : Thread nD τ).1, b)) (V6 m (outs m) c) s') $$ [Hh HSI]
    · isplitl [Hh] <;> iassumption
    icases Hr with ⟨%h, HSI⟩
    imodintro
    isplitr
    · ipureintro
      have at' : ∀ r : Ref sig .tc, r.isScoped = false → s'.mem.mem ((c.tc : Thread nD τ).loc r) = V6 m (outs m) c (Proc.devRef .tc r) := fun r hr =>
        h (Proc.devRef .tc r) (Finset.mem_filter.mpr ⟨StableHlo.devRef_mem_tcRefs r, fun h' => Bool.false_ne_true (hr.symm.trans h')⟩)
      exact ⟨(at' main_v10 rfl).trans (V6_result m c), (at' main_arg0 rfl).trans (V6_main_arg0 m (outs m) c), (at' main_arg1 rfl).trans (V6_main_arg1 m (outs m) c),
        (at' main_arg2 rfl).trans (V6_main_arg2 m (outs m) c), (at' main_arg3 rfl).trans (V6_main_arg3 m (outs m) c),
        (at' main_arg4 rfl).trans (V6_main_arg4 m (outs m) c), (at' main_arg5 rfl).trans (V6_main_arg5 m (outs m) c)⟩
    · iexact HSI

end Cert.KernelIdeal.Moe

end
-- ==== Proof.Printed.lean ====
module

public import proofs.«01_k».proof.Defs
public import proofs.«01_k».proof.Proof.Gen.Kernel
public import proofs.«01_k».proof.Proof.Gen.KernelIdeal
public import proofs.«01_k».proof.Proof.Run

/-!
# The kernel as printed

It has the text of the idealized one. Its program is the idealized program over its own two region
settings, the two settings agree, and so the run above is its run too.
-/

@[expose] public section

set_option maxRecDepth 16384
set_option maxHeartbeats 4000000

noncomputable section

namespace Cert.KernelIdeal.Moe

open Cert.KernelIdeal Cert.KernelIdeal.Facts₀ Cert.KernelIdeal.Facts
open Idealize.ShloMosaic Idealize.SL.Sem

variable {F : FTy → Type} [FloatOps F]

/-- The operations a program over the settings `P` may use. -/
abbrev EffOf (P : Fin 2 → Pipeline.PCfg sig Λ₀ (Elt F)) := TpuEff nD τ sig (Elt F) (Pipeline.Sig Λ₀ (Fin 2) fun p => (P p).Adm) .tc

/-- The padding of the router, over any settings. -/
def padOf (P : Fin 2 → Pipeline.PCfg sig Λ₀ (Elt F)) (arg0 : StableHlo.TRef sig ⟨S1024x8, .f32⟩) (arg1 : StableHlo.TRef sig ⟨S_, .i32⟩)
    (v0 : StableHlo.TRef sig ⟨S_, .f32⟩) (v1 : StableHlo.TRef sig ⟨S1024x128, .f32⟩) : Prog (EffOf P) PUnit := do
  hlo rfl (StableHlo.TRef.unary arg1 v0 (sitofp .f32)) (fun _ => .ret ⟨⟩)
  hlo rfl (StableHlo.TRef.binary arg0 v0 v1 (fun x v => pad S1024x128 ![0, 0] ![0, 120] ![0, 0] x v pads_S1024x8_S1024x128_000_01200 h_S_)) (fun _ => .ret ⟨⟩)
  pure ⟨⟩

/-- The program over any settings. -/
def mainOf (P : Fin 2 → Pipeline.PCfg sig Λ₀ (Elt F)) : Dev nD → Prog (EffOf P) PUnit := fun _ => do
  hlo rfl (StableHlo.nullary main_c (constantI S_ 32 0#32)) (fun _ => .ret ⟨⟩)
  padOf P (.of main_arg2) (.of main_c) (.of main_call0_v0) (.of main_v0)
  hlo rfl (StableHlo.unary main_arg3 main_v1 ((truncf .bf16 · bitsLt_bf16_f32) : (⟨S8x1024x3584, .f32⟩ : BufTy).Contents (Elt F) → (⟨S8x1024x3584, .bf16⟩ : BufTy).Contents (Elt F))) (fun _ => .ret ⟨⟩)
  hlo rfl (StableHlo.unary main_arg4 main_v2 ((truncf .bf16 · bitsLt_bf16_f32) : (⟨S8x1024x3584, .f32⟩ : BufTy).Contents (Elt F) → (⟨S8x1024x3584, .bf16⟩ : BufTy).Contents (Elt F))) (fun _ => .ret ⟨⟩)
  hlo rfl (StableHlo.unary main_arg5 main_v3 ((truncf .bf16 · bitsLt_bf16_f32) : (⟨S8x3584x1024, .f32⟩ : BufTy).Contents (Elt F) → (⟨S8x3584x1024, .bf16⟩ : BufTy).Contents (Elt F))) (fun _ => .ret ⟨⟩)
  hlo rfl (StableHlo.reshape main_arg1 main_v4 (rfl : (.f32 : EltTy) = .f32) shapeCasts_S1024_S1x1024) (fun _ => .ret ⟨⟩)
  Prog.lift (.customCall (Pipeline.entry 0) ())
  hlo rfl (StableHlo.unary main_v5_3 main_v6 ((extractStridedSlice S64x1x8 ![0, 0, 0] · slices_S64x1x128_S64x1x8_0_0_0) : (⟨S64x1x128, .f32⟩ : BufTy).Contents (Elt F) → (⟨S64x1x8, .f32⟩ : BufTy).Contents (Elt F))) (fun _ => .ret ⟨⟩)
  hlo rfl (StableHlo.reshape main_v6 main_v7 (rfl : (.f32 : EltTy) = .f32) shapeCasts_S64x1x8_S64x8) (fun _ => .ret ⟨⟩)
  hlo rfl (StableHlo.unary main_v7 main_v8 (fptosi 32 : (⟨S64x8, .f32⟩ : BufTy).Contents (Elt F) → (⟨S64x8, .i32⟩ : BufTy).Contents (Elt F))) (fun _ => .ret ⟨⟩)
  hlo rfl (StableHlo.reshape main_v8 main_v9 (rfl : (.i32 : EltTy) = .i32) shapeCasts_S64x8_S512) (fun _ => .ret ⟨⟩)
  Prog.lift (.customCall (Pipeline.entry 1) ())
  pure ⟨⟩

theorem main_ideal : main (F := F) = mainOf pcfgs := (rfl)

theorem main_printed : Cert.Kernel.main (F := F) = mainOf (F := F) Cert.Kernel.pcfgs := (rfl)

theorem pcfgs_printed : (show Fin 2 → Pipeline.PCfg sig Λ₀ (Elt F) from Cert.Kernel.pcfgs (F := F)) = pcfgs (F := F) := by
  funext p
  match p with
  | ⟨0, _⟩ => rfl
  | ⟨1, _⟩ => rfl
  | ⟨n + 2, h⟩ => exact absurd h (by omega)

set_option smartUnfolding false in
theorem defs_printed : (show Defs nD τ sig (Elt F) Λ₀ from Cert.Kernel.defs₀ (F := F)) = defs₀ (F := F) := (rfl)

/-- The run over any settings equal to the idealized kernel's. -/
theorem run_of (P : Fin 2 → Pipeline.PCfg sig Λ₀ (Elt F)) (h : P = pcfgs) (D : Defs nD τ sig (Elt F) Λ₀) (hD : D = defs₀)
    (m : (ℓ : Loc nD τ sig) → Buf (Elt F) ℓ) (ρ : Dev nD → PrngReg) :
    θ_run (Pipeline.defs P D) (onTc (τ := τ) (mainOf P)) ⟨m, fun _ => 0, ρ⟩ (fun r => (∀ c : Dev nD, Ends m c r.2) ∧ r.2.sem = fun _ => 0) := by
  subst h hD
  exact run_main m ρ

/-- The printed kernel's run. -/
theorem run_printed (m : (ℓ : Loc Cert.Kernel.nD Cert.Kernel.τ Cert.Kernel.sig) → Buf (Elt F) ℓ) (ρ : Dev Cert.Kernel.nD → PrngReg) :
    θ_run (Pipeline.defs (show Fin 2 → Pipeline.PCfg sig Λ₀ (Elt F) from Cert.Kernel.pcfgs (F := F)) (show Defs nD τ sig (Elt F) Λ₀ from Cert.Kernel.defs₀ (F := F))) (onTc (τ := τ) (mainOf (F := F) Cert.Kernel.pcfgs)) ⟨m, fun _ => 0, ρ⟩ (fun r => (∀ c : Dev nD, Ends m c r.2) ∧ r.2.sem = fun _ => 0) :=
  run_of _ pcfgs_printed _ defs_printed m ρ

end Cert.KernelIdeal.Moe

end
-- ==== Proof.Choice.lean ====
/- Counting among zeros and ones, the two greatest of eight values, and the stable sort that finds them. -/
module

public import Idealize.ShloMosaic.Lib.Pointwise
public import Idealize.ShloMosaic.Lib.ValueIdx
public import Idealize.ShloMosaic.Lib.SortPrefix
public import Idealize.ShloMosaic.Lib.SortFacts

@[expose] public section

set_option maxRecDepth 16384
noncomputable section

namespace Cert.Choice

open Idealize.ShloMosaic

/-! ## Counts -/

theorem sum_ones (S : ℕ → Prop) [DecidablePred S] (n : ℕ) :
    (∑ k : Fin n, if S k.val then (1 : EReal) else 0) = ((Nat.count S n : ℕ) : EReal) := by
  induction n with
  | zero => simp
  | succ n ih =>
    rw [Fin.sum_univ_castSucc, Nat.count_succ]
    simp only [Fin.val_castSucc, Fin.val_last, ih]
    split <;> simp

theorem count_le_and (S : ℕ → Prop) [DecidablePred S] (q n : ℕ) :
    Nat.count (fun k => k ≤ q ∧ S k) n = Nat.count S (min n (q + 1)) := by
  induction n with
  | zero => simp
  | succ n ih =>
    rw [Nat.count_succ, ih]
    rcases Nat.lt_or_ge q n with h | h
    · rw [if_neg (by omega), Nat.min_eq_right (by omega), Nat.min_eq_right (by omega)]
      rfl
    · rw [Nat.min_eq_left (by omega), Nat.min_eq_left (by omega), Nat.count_succ]
      congr 1
      simp [h]

theorem sum_ones_le (S : ℕ → Prop) [DecidablePred S] (n q : ℕ) (hq : q < n) :
    (∑ k : Fin n, (if k.val ≤ q then (1 : EReal) else 0) * (if S k.val then (1 : EReal) else 0)) = ((Nat.count S (q + 1) : ℕ) : EReal) := by
  have h := sum_ones (fun k => k ≤ q ∧ S k) n
  rw [count_le_and, Nat.min_eq_right (by omega)] at h
  rw [← h]
  refine Finset.sum_congr rfl fun k _ => ?_
  by_cases h1 : k.val ≤ q <;> by_cases h2 : S k.val <;> simp [h1, h2]

theorem natCast_succ_sub_one (m : ℕ) : (((m + 1 : ℕ) : EReal)) - 1 = ((m : ℕ) : EReal) := by
  rw [← EReal.coe_natCast, ← EReal.coe_natCast, ← EReal.coe_one, ← EReal.coe_sub]
  congr 1
  push_cast
  ring

theorem fptosi_natCast (m : ℕ) (h : m < 2 ^ 31) : Ideal.fptosi 32 ((m : ℕ) : EReal) = BitVec.ofNat 32 m := by
  rw [← EReal.coe_natCast, Ideal.fptosi, Ideal.toIntClamped_coe, if_pos (Nat.cast_nonneg m), Int.floor_natCast]
  have : max (-((2 ^ (32 - 1) : ℕ) : ℤ)) (min (((2 ^ (32 - 1) : ℕ) : ℤ) - 1) (m : ℤ)) = (m : ℤ) := by
    norm_num at h ⊢
    omega
  rw [this, BitVec.ofInt_natCast]

theorem fptosi_neg_one : Ideal.fptosi 32 (-1 : EReal) = 4294967295#32 := by
  rw [show (-1 : EReal) = ((-1 : ℝ) : EReal) from by norm_num, Ideal.fptosi, Ideal.toIntClamped_coe]
  norm_num
  rfl

/-! ## The two greatest of eight values, ties to the lower position -/

/-- `i` is the first position of the greatest value, `j` the first of the greatest of the others. -/
structure Top (v : Fin 8 → EReal) (i j : Fin 8) : Prop where
  le_i : ∀ k, v k ≤ v i
  lt_i : ∀ k, k < i → v k < v i
  ne : j ≠ i
  le_j : ∀ k, k ≠ i → v k ≤ v j
  lt_j : ∀ k, k ≠ i → k < j → v k < v j

/-- The first position of the greatest value among those of a nonempty set. -/
theorem exists_first (v : Fin 8 → EReal) (s : Finset (Fin 8)) (hs : s.Nonempty) :
    ∃ i ∈ s, (∀ k ∈ s, v k ≤ v i) ∧ ∀ k ∈ s, k < i → v k < v i := by
  obtain ⟨m, hm, hmax⟩ := s.exists_max_image v hs
  have ht : (s.filter fun k => v k = v m).Nonempty := ⟨m, by simp [hm]⟩
  obtain ⟨i, hi, hmin⟩ := (s.filter fun k => v k = v m).exists_min_image id ht
  simp only [Finset.mem_filter] at hi hmin
  refine ⟨i, hi.1, fun k hk => (hmax k hk).trans_eq hi.2.symm, fun k hk hki => ?_⟩
  refine lt_of_le_of_ne ((hmax k hk).trans_eq hi.2.symm) fun h => ?_
  exact absurd (hmin k ⟨hk, h.trans hi.2⟩) (not_le.2 hki)

theorem exists_top (v : Fin 8 → EReal) : ∃ i j, Top v i j := by
  obtain ⟨i, -, hi1, hi2⟩ := exists_first v Finset.univ ⟨0, Finset.mem_univ _⟩
  have hne : (Finset.univ.erase i).Nonempty := by
    rw [← Finset.card_pos, Finset.card_erase_of_mem (Finset.mem_univ _)]; decide
  obtain ⟨j, hj, hj1, hj2⟩ := exists_first v (Finset.univ.erase i) hne
  exact ⟨i, j, fun k => hi1 k (Finset.mem_univ _), fun k => hi2 k (Finset.mem_univ _), (Finset.mem_erase.1 hj).1,
    fun k hk => hj1 k (Finset.mem_erase.2 ⟨hk, Finset.mem_univ _⟩), fun k hk => hj2 k (Finset.mem_erase.2 ⟨hk, Finset.mem_univ _⟩)⟩

/-! ## The stable sort -/

/-- The order of a stable sort, greater first: by value, then by position. -/
def before (v : Fin 8 → EReal) (k k' : Fin 8) : Bool := decide (v k' < v k) || (decide (v k = v k') && decide (k < k'))

theorem insertBefore_lex (v : Fin 8 → EReal) (a : Fin 8) (l : List (Fin 8)) (h : ∀ b ∈ l, a < b) :
    insertBefore (fun k k' => decide (v k' < v k)) a l = insertBefore (before v) a l := by
  induction l with
  | nil => rfl
  | cons b l ih =>
    unfold insertBefore
    have hb : a < b := h b (by simp)
    have e : before v b a = decide (v a < v b) := by
      simp [before, not_lt.2 hb.le]
    rw [e, ih fun c hc => h c (by simp [hc])]

theorem stableSort_lex (v : Fin 8 → EReal) (l : List (Fin 8)) (h : l.Pairwise (· < ·)) :
    stableSort (fun k k' => decide (v k' < v k)) l = stableSort (before v) l := by
  induction l with
  | nil => rfl
  | cons a l ih =>
    rw [List.pairwise_cons] at h
    unfold stableSort
    rw [ih h.2]
    exact insertBefore_lex v a _ fun b hb => h.1 b ((perm_stableSort _ l).mem_iff.1 hb)

theorem sortedFrom_lex (v : Fin 8 → EReal) (k : Fin 8) :
    sortedFrom (fun k k' => decide (v k' < v k)) k = sortedFrom (before v) k := by
  have h : sortPositions 8 (fun k k' => decide (v k' < v k)) = sortPositions 8 (before v) :=
    stableSort_lex v _ (List.pairwise_lt_finRange 8)
  unfold sortedFrom
  rw [List.get_eq_getElem, List.get_eq_getElem]
  simp only [Fin.val_cast]
  congr 1

theorem strict_before (v : Fin 8 → EReal) : StrictTotalBefore (before v) :=
  StrictTotalBefore.of_key_then_position (fun a b : EReal => decide (b < a)) v (by simp)
    (fun a b c hab hbc => by simp only [decide_eq_true_eq] at *; exact hbc.trans hab)
    (fun a b => by
      simp only [decide_eq_true_eq]
      rcases lt_trichotomy a b with h | h | h
      · exact Or.inr (Or.inr h)
      · exact Or.inr (Or.inl h)
      · exact Or.inl h)

theorem before_eq_false (v : Fin 8 → EReal) (p i : Fin 8) (h1 : v p ≤ v i) (h2 : p ≠ i) (h3 : p < i → v p < v i) : before v p i = false := by
  rw [before, Bool.or_eq_false_iff, Bool.and_eq_false_iff, decide_eq_false_iff_not, decide_eq_false_iff_not, decide_eq_false_iff_not]
  refine ⟨not_lt.2 h1, ?_⟩
  rcases lt_or_gt_of_ne h2 with hl | hl
  · exact Or.inl (h3 hl).ne
  · exact Or.inr (not_lt.2 hl.le)

theorem sortedFrom_top (v : Fin 8 → EReal) (i j : Fin 8) (h : Top v i j) (k : Fin 2) :
    sortedFrom (fun k k' => decide (v k' < v k)) (k.castLE (by decide)) = ![i, j] k := by
  rw [sortedFrom_lex]
  refine (strict_before v).sortedFrom_eq_of_prefix (by decide) ![i, j] ?_ ?_ ?_ k
  · intro a b hab
    have := h.ne
    fin_cases a <;> fin_cases b <;> simp_all
  · intro a b hab
    fin_cases a <;> fin_cases b <;> simp at hab
    exact before_eq_false v j i (h.le_i j) h.ne (h.lt_i j)
  · intro a p hp
    have hpi : p ≠ i := fun e => hp 0 (by simp [e])
    have hpj : p ≠ j := fun e => hp 1 (by simp [e])
    fin_cases a
    · exact before_eq_false v p i (h.le_i p) hpi (h.lt_i p)
    · exact before_eq_false v p j (h.le_j p hpi) hpj (h.lt_j p hpi)

/-! ## The first position of a maximum, as the kernel finds it -/

theorem fold_max_eq {n : ℕ} (f : Fin n → EReal) (i : Fin n) (h : ∀ k, f k ≤ f i) : Finset.fold max ⊥ f Finset.univ = f i := by
  apply le_antisymm
  · rw [Finset.fold_max_le]; exact ⟨bot_le, fun k _ => h k⟩
  · rw [Finset.le_fold_max]; exact Or.inr ⟨i, Finset.mem_univ _, le_rfl⟩

theorem toInt_minsi (x y : BitVec 32) : (IntOp.minsi x y).toInt = min x.toInt y.toInt := by
  unfold IntOp.minsi
  split
  · rename_i h; rw [BitVec.slt_iff_toInt_lt] at h; omega
  · rename_i h; rw [BitVec.slt_iff_toInt_lt] at h; omega

theorem fold_minsi_first (P : Fin 128 → Prop) [DecidablePred P] (i : Fin 128) (hi : P i) (hlt : ∀ k, k < i → ¬ P k) :
    Finset.fold IntOp.minsi 2147483647#32 (fun x : Fin 128 => if P x then BitVec.ofNat 32 x.val else 128#32) Finset.univ = BitVec.ofNat 32 i.val := by
  have ho : ∀ n : ℕ, n ≤ 128 → (BitVec.ofNat 32 n).toInt = n := fun n hn => by
    rw [BitVec.toInt_eq_toNat_of_lt] <;> rw [BitVec.toNat_ofNat, Nat.mod_eq_of_lt] <;> omega
  apply BitVec.eq_of_toInt_eq
  rw [← Finset.fold_hom (op := IntOp.minsi) (op' := min) (m := BitVec.toInt) toInt_minsi]
  apply le_antisymm
  · rw [Finset.fold_min_le]; right
    exact ⟨i, Finset.mem_univ _, by rw [if_pos hi]⟩
  · rw [Finset.le_fold_min]
    refine ⟨by have := i.isLt; rw [ho _ (by omega)]; push_cast; omega, fun k _ => ?_⟩
    split
    · rename_i hk
      rw [ho _ (by omega), ho _ (by omega)]
      by_contra hc
      exact hlt k (by rw [Fin.lt_def]; omega) hk
    · have := i.isLt; rw [ho _ (by omega), show (128#32 : BitVec 32).toInt = 128 from rfl]; omega

end Cert.Choice
-- ==== Proof.Routing.lean ====
/- What one point of the first kernel computes, row by row: the two chosen experts, their gates, and each row's position among the rows that chose an expert. -/
module

public import proofs.«01_k».proof.Proof.Choice
public import proofs.«01_k».proof.Proof.Gen.KernelIdeal.Skeleton
public import proofs.«01_k».proof.Proof.Gen.KernelIdeal
public import Idealize.ShloMosaic.Lib.Pointwise
public import Idealize.ShloMosaic.Lib.ValueIdx

@[expose] public section

set_option maxRecDepth 16384
noncomputable section

namespace Cert.KernelIdeal.Route

open Cert.KernelIdeal Cert.KernelIdeal.Gen Cert.Choice
open Idealize.ShloMosaic

theorem ofBits_bot : Ideal.ofBits .f32 4286578688#32 = ⊥ := by
  simp [Ideal.ofBits, Ideal.ieee]

theorem ofBits_neg_one : Ideal.ofBits .f32 3212836864#32 = -1 := by
  rw [show (-1 : EReal) = ((-(1 : ℝ) : ℝ) : EReal) from by norm_num]
  simp [Ideal.ofBits, Ideal.ieee, -EReal.coe_mul, -EReal.coe_neg]; norm_num

theorem select_eq {α : Type} {w : ℕ} (a b : BitVec w) (x y : α) : Scalar.select (IntOp.cmpi .eq a b) x y = if a = b then x else y := by
  unfold Scalar.select
  by_cases h : a = b
  · rw [if_pos h, if_pos]; subst h; simp [IntOp.cmpi]
  · rw [if_neg h, if_neg]
    have : (a == b) = false := by simpa using h
    simp [IntOp.cmpi, this]

theorem ofNat_inj {a b : ℕ} (ha : a < 2 ^ 31) (hb : b < 2 ^ 31) : BitVec.ofNat 32 a = BitVec.ofNat 32 b ↔ a = b := by
  constructor
  · intro h
    have := congrArg BitVec.toNat h
    rw [BitVec.toNat_ofNat, BitVec.toNat_ofNat, Nat.mod_eq_of_lt (by omega), Nat.mod_eq_of_lt (by omega)] at this
    exact this
  · rintro rfl; rfl

/-- An expert's lane. -/
def lane (e : Fin 8) : Fin 128 := e.castLE (by decide)

/-- The share of expert `e` in a row whose greatest logits are at `i` and `j`. -/
def gate (v : Fin 8 → EReal) (i j e : Fin 8) : EReal :=
  (if e = i then Ideal.div 1 (1 + Ideal.exp (v j - v i)) else 0) + if e = j then Ideal.div (Ideal.exp (v j - v i)) (1 + Ideal.exp (v j - v i)) else 0

/-- A row of logits as the kernel's lanes hold it. -/
def lanes (v : Fin 8 → EReal) (l : Fin 128) : EReal := if h : l.val < 8 then v ⟨l, h⟩ else ⊥

theorem lanes_lane (v : Fin 8 → EReal) (e : Fin 8) : lanes v (lane e) = v e := dif_pos e.isLt

theorem lanes_cases (v : Fin 8 → EReal) (l : Fin 128) : lanes v l = ⊥ ∨ ∃ e, lane e = l ∧ lanes v l = v e := by
  by_cases h : l.val < 8
  · exact Or.inr ⟨⟨l, h⟩, rfl, dif_pos h⟩
  · exact Or.inl (dif_neg h)

theorem lanes_le (v : Fin 8 → EReal) (l : Fin 128) {m : EReal} (h : ∀ e, lane e = l → v e ≤ m) : lanes v l ≤ m := by
  rcases lanes_cases v l with hb | ⟨e, he, hv⟩
  · rw [hb]; exact bot_le
  · rw [hv]; exact h e he

theorem lanes_ne (v : Fin 8 → EReal) (l : Fin 128) {m : EReal} (hm : m ≠ ⊥) (h : ∀ e, lane e = l → v e < m) : lanes v l ≠ m := by
  rcases lanes_cases v l with hb | ⟨e, he, hv⟩
  · rw [hb]; exact hm.symm
  · rw [hv]; exact (h e he).ne

theorem lane_inj {a b : Fin 8} : lane a = lane b ↔ a = b := by simp [lane, Fin.ext_iff]

theorem lane_ne {a b : Fin 8} (h : a ≠ b) : lane a ≠ lane b := fun hc => h (lane_inj.1 hc)

theorem lane_num (a b : Fin 8) : (BitVec.ofNat 32 (lane a).val = BitVec.ofNat 32 b.val) = (a = b) :=
  propext ((ofNat_inj (lt_trans a.isLt (by decide)) (lt_trans b.isLt (by decide))).trans Fin.ext_iff.symm)

theorem ori_cmpi (a b c : BitVec 32) : IntOp.ori (IntOp.cmpi .eq a b) (IntOp.cmpi .eq a c) = if a = b ∨ a = c then 1#1 else 0#1 := by
  have e (d : BitVec 32) : IntOp.cmpi .eq a d = if a = d then 1#1 else 0#1 := by
    by_cases h : a = d
    · rw [if_pos h]; subst h; simp [IntOp.cmpi]
    · have : (a == d) = false := by simpa using h
      rw [if_neg h]; simp [IntOp.cmpi, this]
  rw [e b, e c]
  by_cases h1 : a = b
  · rw [if_pos h1, if_pos (Or.inl h1)]; split <;> rfl
  · rw [if_neg h1]
    by_cases h2 : a = c
    · rw [if_pos h2, if_pos (Or.inr h2)]; rfl
    · rw [if_neg h2, if_neg (not_or.2 ⟨h1, h2⟩)]; rfl

variable (X : Vec Ideal S1024x1024 .f32) (g : Vec Ideal S1x1024 .f32) (R : Vec Ideal S1024x128 .f32)

/-- A row of the norm. -/
def norm (x : Fin 1024 → EReal) (w : Fin 1024 → EReal) (k : Fin 1024) : EReal :=
  x k * Ideal.rsqrt (Ideal.div (∑ q, x q * x q) (Ideal.ofBits .f32 1149239296#32) + Ideal.ofBits .f32 897988541#32) * w k

theorem pay1_at (r c : Fin 1024) : k0_pay1 (F := Ideal) X g (ix2 r c) = norm (fun k => X (ix2 r k)) (fun k => g (ix2 0 k)) c := by
  pointwise [k0_pay1]
  rfl

theorem pay2_at (r c : Fin 1024) : k0_pay2 (F := Ideal) X g (ix2 r c) = norm (fun k => X (ix2 r k)) (fun k => g (ix2 0 k)) c := by
  pointwise [k0_pay2, k0_pay1]
  rfl

theorem pay3_at (r : Fin 1024) (l : Fin 128) :
    k0_pay3 (F := Ideal) X g R (ix2 r l) = lanes (fun e => ∑ k, norm (fun k => X (ix2 r k)) (fun k => g (ix2 0 k)) k * R (ix2 k (lane e))) l := by
  pointwise [k0_pay3]
  simp only [pay1_at, ofBits_bot, lanes]
  by_cases h : l.val < 8
  · rw [dif_pos h, show IntOp.cmpi .slt (BitVec.ofNat 32 l.val) 8#32 = 1#1 from (by revert l; decide)]
    rfl
  · rw [dif_neg h, show IntOp.cmpi .slt (BitVec.ofNat 32 l.val) 8#32 = 0#1 from (by revert l; decide)]
    rfl

/-- The row `r` has the logits `v`, all of them real, the greatest two at `i` and `j`. -/
structure Row (r : Fin 1024) (v : Fin 8 → EReal) (i j : Fin 8) : Prop where
  logits : ∀ l, k0_pay3 (F := Ideal) X g R (ix2 r l) = lanes v l
  bot : ∀ e, v e ≠ ⊥
  top : Top v i j

variable {X g R} {r : Fin 1024} {v : Fin 8 → EReal} {i j : Fin 8}

theorem pay4_at (h : Row X g R r v i j) : k0_pay4 (F := Ideal) X g R (ix2 r 0) = v i := by
  pointwise [k0_pay4]
  simp only [h.logits, ofBits_bot]
  rw [fold_max_eq _ (lane i) fun k => ?_]
  · exact lanes_lane v i
  · rw [lanes_lane]; exact lanes_le v k fun e _ => h.top.le_i e

theorem pay5_at (h : Row X g R r v i j) : k0_pay5 (F := Ideal) X g R (ix2 r 0) = BitVec.ofNat 32 i.val := by
  pointwise [k0_pay5]
  simp only [h.logits, pay4_at h]
  refine fold_minsi_first (fun x => lanes v x = v i) (lane i) (lanes_lane v i) fun k hk =>
    lanes_ne v k (h.bot i) fun e he => h.top.lt_i e (by subst he; exact hk)

theorem pay6_at (h : Row X g R r v i j) (l : Fin 128) : k0_pay6 (F := Ideal) X g R (ix2 r l) = if l = lane i then ⊥ else lanes v l := by
  pointwise [k0_pay6]
  simp only [h.logits, pay5_at h, ofBits_bot, select_eq]
  simp only [ofNat_inj (lt_trans l.isLt (by decide)) (lt_trans i.isLt (by decide)), Fin.ext_iff, lane, Fin.val_castLE]

theorem pay7_at (h : Row X g R r v i j) : k0_pay7 (F := Ideal) X g R (ix2 r 0) = v j := by
  pointwise [k0_pay7]
  simp only [pay6_at h, ofBits_bot]
  rw [fold_max_eq _ (lane j) fun k => ?_]
  · rw [if_neg (lane_ne h.top.ne), lanes_lane]
  · rw [if_neg (lane_ne h.top.ne), lanes_lane]
    by_cases hk : k = lane i
    · rw [if_pos hk]; exact bot_le
    · rw [if_neg hk]; exact lanes_le v k fun e he => h.top.le_j e fun hei => hk (he.symm.trans (congrArg lane hei))

/-- The lanes' numbers. -/
abbrev nums : IVec S1024x128 32 := iota .tc S1024x128 32 [1] iota_S1024x128_d1_w32

theorem pay8_at (h : Row X g R r v i j) : k0_pay8 (F := Ideal) nums (k0_pay6 (F := Ideal) X g R) (k0_pay7 (F := Ideal) X g R) (ix2 r 0) = BitVec.ofNat 32 j.val := by
  pointwise [k0_pay8]
  simp only [pay6_at h, pay7_at h]
  refine fold_minsi_first (fun x => (if x = lane i then ⊥ else lanes v x) = v j) (lane j) (by rw [if_neg (lane_ne h.top.ne), lanes_lane]) fun k hk => ?_
  by_cases hki : k = lane i
  · rw [if_pos hki]; exact fun hb => h.bot j hb.symm
  · rw [if_neg hki]
    exact lanes_ne v k (h.bot j) fun e he => h.top.lt_j e (fun hei => hki (he.symm.trans (congrArg lane hei))) (by subst he; exact hk)

/-- The gates' block. -/
abbrev gates (X : Vec Ideal S1024x1024 .f32) (g : Vec Ideal S1x1024 .f32) (R : Vec Ideal S1024x128 .f32) : FVec Ideal S1024x128 .f32 :=
  k0_pay9 (F := Ideal) nums (k0_pay4 (F := Ideal) X g R) (k0_pay5 (F := Ideal) X g R) (k0_pay6 (F := Ideal) X g R) (k0_pay7 (F := Ideal) X g R)

theorem gates_at (h : Row X g R r v i j) (e : Fin 8) : gates X g R (ix2 r (lane e)) = gate v i j e := by
  pointwise [gates, k0_pay9]
  simp only [pay4_at h, pay5_at h, pay7_at h, pay8_at h, select_eq]
  simp only [lane_num, gate]

abbrev mask (X : Vec Ideal S1024x1024 .f32) (g : Vec Ideal S1x1024 .f32) (R : Vec Ideal S1024x128 .f32) : IVec S1024x128 1 :=
  k0_pay10 (F := Ideal) nums (k0_pay5 (F := Ideal) X g R) (k0_pay6 (F := Ideal) X g R) (k0_pay7 (F := Ideal) X g R)

abbrev ones (X : Vec Ideal S1024x1024 .f32) (g : Vec Ideal S1x1024 .f32) (R : Vec Ideal S1024x128 .f32) : FVec Ideal S1024x128 .f32 :=
  k0_pay11 (F := Ideal) nums (k0_pay5 (F := Ideal) X g R) (k0_pay6 (F := Ideal) X g R) (k0_pay7 (F := Ideal) X g R)

theorem mask_at (h : Row X g R r v i j) (e : Fin 8) : mask X g R (ix2 r (lane e)) = if e = i ∨ e = j then 1#1 else 0#1 := by
  pointwise [mask, k0_pay10]
  simp only [pay5_at h, pay8_at h]
  simp only [ori_cmpi, lane_num]

theorem ones_at (h : Row X g R r v i j) (e : Fin 8) : ones X g R (ix2 r (lane e)) = if e = i ∨ e = j then 1 else 0 := by
  pointwise [ones, k0_pay11, k0_pay10]
  simp only [pay5_at h, pay8_at h]
  simp only [ori_cmpi, lane_num]
  by_cases hc : e = i ∨ e = j
  · rw [if_pos hc, if_pos hc]; rfl
  · rw [if_neg hc, if_neg hc]; rfl

end Cert.KernelIdeal.Route

end
-- ==== Proof.Positions.lean ====
/- Each row's position among the rows of its tile that chose an expert, and how many they are. -/
module

public import proofs.«01_k».proof.Proof.Routing
public import proofs.«01_k».proof.Proof.Gen.KernelIdeal.Skeleton
public import proofs.«01_k».proof.Proof.Gen.KernelIdeal
public import Idealize.ShloMosaic.Lib.Pointwise
public import Idealize.ShloMosaic.Lib.ValueIdx

@[expose] public section

set_option maxRecDepth 16384
noncomputable section

namespace Cert.KernelIdeal.Route

open Cert.KernelIdeal Cert.KernelIdeal.Gen Cert.Choice
open Idealize.ShloMosaic

/-! ## Positions -/

theorem rank_aux (S : ℕ → Prop) [DecidablePred S] (b q : ℕ) (hq : q < 128) (hS : S (128 * b + q)) :
    (∑ x : Fin 128, (if x.val ≤ q then (1 : EReal) else 0) * (if S (128 * b + x.val) then (1 : EReal) else 0)) + ((Nat.count S (128 * b) : ℕ) : EReal) - 1
      = ((Nat.count S (128 * b + q) : ℕ) : EReal) := by
  have h := sum_ones_le (fun k => S (128 * b + k)) 128 q hq
  rw [h, add_comm, ← Nat.cast_add, ← Nat.count_add, show 128 * b + (q + 1) = (128 * b + q) + 1 from rfl, Nat.count_succ, if_pos hS]
  exact natCast_succ_sub_one _

theorem seen_aux (S : ℕ → Prop) [DecidablePred S] (b : ℕ) :
    ((Nat.count S (128 * b) : ℕ) : EReal) + ∑ x : Fin 128, (if S (128 * b + x.val) then (1 : EReal) else 0) = ((Nat.count S (128 * (b + 1)) : ℕ) : EReal) := by
  rw [sum_ones (fun k => S (128 * b + k)) 128, ← Nat.cast_add, ← Nat.count_add]
  rfl

theorem select_mask {p : Prop} [Decidable p] {m : BitVec 1} (h : m = if p then 1#1 else 0#1) (x y : EReal) : Scalar.select m x y = if p then x else y := by
  subst h
  by_cases hp : p
  · rw [if_pos hp, if_pos hp]; rfl
  · rw [if_neg hp, if_neg hp]; rfl

theorem tri_at (q x : Fin 128) : k0_pay12 (F := Ideal) (ix2 q x) = if x.val ≤ q.val then 1 else 0 := by
  pointwise [k0_pay12]
  have hi (a : Fin 128) : (BitVec.ofNat 32 a.val).toInt = a.val := by
    rw [BitVec.toInt_eq_toNat_of_lt] <;> rw [BitVec.toNat_ofNat, Nat.mod_eq_of_lt] <;> omega
  refine select_mask ?_ 1 0
  show BitVec.ofBool ((BitVec.ofNat 32 x.val).sle (BitVec.ofNat 32 q.val)) = _
  by_cases h : x.val ≤ q.val
  · rw [if_pos h, BitVec.sle_iff_toInt_le.2 (by rw [hi, hi]; omega)]; rfl
  · have hf : (BitVec.ofNat 32 x.val).sle (BitVec.ofNat 32 q.val) = false := Bool.eq_false_iff.2 fun hc => h (by
      rw [BitVec.sle_iff_toInt_le, hi, hi] at hc; omega)
    rw [if_neg h, hf]; rfl

variable (D : FVec Ideal S1024x128 .f32) (B : FVec Ideal S128x128 .f32) (S : ℕ → Prop) [DecidablePred S] (l : Fin 128)

/-- The lane of `D` holds ones at the rows of `S`, zeros at the others; `B` is its first block of rows. -/
structure Marks : Prop where
  all : ∀ r : Fin 1024, D (ix2 r l) = if S r.val then (1 : EReal) else 0
  first : ∀ x : Fin 128, B (ix2 x l) = if S (128 * 0 + x.val) then (1 : EReal) else 0

variable {D B S l}

theorem block1 (h : Marks D B S l) (x : Fin 128) : k0_pay18 (F := Ideal) D (ix2 x l) = if S (128 * 1 + x.val) then (1 : EReal) else 0 := by
  pointwise [k0_pay18]
  exact h.all _
theorem block2 (h : Marks D B S l) (x : Fin 128) : k0_pay21 (F := Ideal) D (ix2 x l) = if S (128 * 2 + x.val) then (1 : EReal) else 0 := by
  pointwise [k0_pay21]
  exact h.all _
theorem block3 (h : Marks D B S l) (x : Fin 128) : k0_pay24 (F := Ideal) D (ix2 x l) = if S (128 * 3 + x.val) then (1 : EReal) else 0 := by
  pointwise [k0_pay24]
  exact h.all _
theorem block4 (h : Marks D B S l) (x : Fin 128) : k0_pay27 (F := Ideal) D (ix2 x l) = if S (128 * 4 + x.val) then (1 : EReal) else 0 := by
  pointwise [k0_pay27]
  exact h.all _
theorem block5 (h : Marks D B S l) (x : Fin 128) : k0_pay31 (F := Ideal) D (ix2 x l) = if S (128 * 5 + x.val) then (1 : EReal) else 0 := by
  pointwise [k0_pay31]
  exact h.all _
theorem block6 (h : Marks D B S l) (x : Fin 128) : k0_pay33 (F := Ideal) D (ix2 x l) = if S (128 * 6 + x.val) then (1 : EReal) else 0 := by
  pointwise [k0_pay33]
  exact h.all _
theorem block7 (h : Marks D B S l) (x : Fin 128) : k0_pay35 (F := Ideal) D (ix2 x l) = if S (128 * 7 + x.val) then (1 : EReal) else 0 := by
  pointwise [k0_pay35]
  exact h.all _

/-- One more block of rows is counted. -/
theorem seen_next {a : EReal} {f : Fin 128 → EReal} (b : ℕ) (ha : a = ((Nat.count S (128 * b) : ℕ) : EReal))
    (hf : ∀ x, f x = if S (128 * b + x.val) then (1 : EReal) else 0) : a + ∑ x, f x = ((Nat.count S (128 * (b + 1)) : ℕ) : EReal) := by
  rw [ha, Finset.sum_congr rfl fun x _ => hf x, seen_aux]

theorem seen1 (h : Marks D B S l) : k0_pay17 (F := Ideal) k0_pay13 B (ix2 0 l) = ((Nat.count S (128 * 1) : ℕ) : EReal) := by
  pointwise [k0_pay17, k0_pay13]
  have hs := seen_next (S := S) 0 (by simp : (0 : EReal) = _) h.first
  rwa [zero_add] at hs
theorem seen2 (h : Marks D B S l) : k0_pay20 (F := Ideal) D k0_pay13 B (ix2 0 l) = ((Nat.count S (128 * 2) : ℕ) : EReal) := by
  pointwise [k0_pay20]
  exact seen_next 1 (seen1 h) (block1 h)
theorem seen3 (h : Marks D B S l) : k0_pay23 (F := Ideal) D k0_pay13 B (ix2 0 l) = ((Nat.count S (128 * 3) : ℕ) : EReal) := by
  pointwise [k0_pay23]
  exact seen_next 2 (seen2 h) (block2 h)
theorem seen4 (h : Marks D B S l) : k0_pay26 (F := Ideal) D k0_pay13 B (ix2 0 l) = ((Nat.count S (128 * 4) : ℕ) : EReal) := by
  pointwise [k0_pay26]
  exact seen_next 3 (seen3 h) (block3 h)
theorem seen5 (h : Marks D B S l) : k0_pay30 (F := Ideal) (k0_pay26 D k0_pay13 B) (k0_pay29 D) (ix2 0 l) = ((Nat.count S (128 * 5) : ℕ) : EReal) := by
  pointwise [k0_pay30, k0_pay29]
  exact seen_next 4 (seen4 h) (block4 h)
theorem seen6 (h : Marks D B S l) : k0_pay32 (F := Ideal) D (k0_pay26 D k0_pay13 B) (k0_pay29 D) (ix2 0 l) = ((Nat.count S (128 * 6) : ℕ) : EReal) := by
  pointwise [k0_pay32]
  exact seen_next 5 (seen5 h) (block5 h)
theorem seen7 (h : Marks D B S l) : k0_pay34 (F := Ideal) D (k0_pay26 D k0_pay13 B) (k0_pay29 D) (ix2 0 l) = ((Nat.count S (128 * 7) : ℕ) : EReal) := by
  pointwise [k0_pay34]
  exact seen_next 6 (seen6 h) (block6 h)

/-- The counts' block. -/
theorem counts_at (h : Marks D B S l) : k0_pay37 (F := Ideal) D (k0_pay26 D k0_pay13 B) (k0_pay29 D) (ix3 0 0 l) = ((Nat.count S 1024 : ℕ) : EReal) := by
  pointwise [k0_pay37]
  exact seen_next 7 (seen7 h) (block7 h)

/-- A row of a block. -/
theorem rank_block {a : EReal} {f : Fin 128 → EReal} (b : ℕ) (q : Fin 128) (n : ℕ) (hn : n = 128 * b + q.val) (hS : S n)
    (hf : ∀ x, f x = if S (128 * b + x.val) then (1 : EReal) else 0) (ha : a = ((Nat.count S (128 * b) : ℕ) : EReal)) :
    (∑ x : Fin 128, k0_pay12 (F := Ideal) (ix2 q x) * f x) + a - 1 = ((Nat.count S n : ℕ) : EReal) := by
  subst hn
  rw [ha, ← rank_aux S b q.val q.isLt hS]
  congr 2
  exact Finset.sum_congr rfl fun x _ => by rw [tri_at, hf]

/-- The positions' block. -/
abbrev posts (M : IVec S1024x128 1) (D : FVec Ideal S1024x128 .f32) (B : FVec Ideal S128x128 .f32) (B' : FVec Ideal S128x128 .bf16) : FVec Ideal S1x8x1024 .f32 :=
  k0_pay36 (F := Ideal) M D k0_pay12 (k0_pay16 k0_pay12 k0_pay13 B' (constant S128x128 .f32 0x00000000#32)) (k0_pay19 D k0_pay12 k0_pay13 B) (k0_pay22 D k0_pay12 k0_pay13 B)
    (k0_pay25 D k0_pay12 k0_pay13 B) (k0_pay26 D k0_pay13 B) (k0_pay28 D k0_pay12 k0_pay13 B) (k0_pay29 D)

theorem rank0 (h : Marks D B S l) (B' : FVec Ideal S128x128 .bf16) (hB : ∀ x : Fin 128, B' (ix2 x l) = B (ix2 x l)) (q : Fin 128) (n : ℕ) (hn : n = 128 * 0 + q.val) (hS : S n) :
    k0_pay16 (F := Ideal) k0_pay12 k0_pay13 B' (constant S128x128 .f32 0x00000000#32) (ix2 q l) = ((Nat.count S n : ℕ) : EReal) := by
  pointwise [k0_pay16, k0_pay13]
  have hr := rank_block 0 q n hn hS (fun x => (hB x).trans (h.first x)) (by simp : (0 : EReal) = _)
  rwa [add_zero] at hr
theorem rank1 (h : Marks D B S l) (q : Fin 128) (n : ℕ) (hn : n = 128 * 1 + q.val) (hS : S n) :
    k0_pay19 (F := Ideal) D k0_pay12 k0_pay13 B (ix2 q l) = ((Nat.count S n : ℕ) : EReal) := by
  pointwise [k0_pay19]
  exact rank_block 1 q n hn hS (block1 h) (seen1 h)
theorem rank2 (h : Marks D B S l) (q : Fin 128) (n : ℕ) (hn : n = 128 * 2 + q.val) (hS : S n) :
    k0_pay22 (F := Ideal) D k0_pay12 k0_pay13 B (ix2 q l) = ((Nat.count S n : ℕ) : EReal) := by
  pointwise [k0_pay22]
  exact rank_block 2 q n hn hS (block2 h) (seen2 h)
theorem rank3 (h : Marks D B S l) (q : Fin 128) (n : ℕ) (hn : n = 128 * 3 + q.val) (hS : S n) :
    k0_pay25 (F := Ideal) D k0_pay12 k0_pay13 B (ix2 q l) = ((Nat.count S n : ℕ) : EReal) := by
  pointwise [k0_pay25]
  exact rank_block 3 q n hn hS (block3 h) (seen3 h)
theorem rank4 (h : Marks D B S l) (q : Fin 128) (n : ℕ) (hn : n = 128 * 4 + q.val) (hS : S n) :
    k0_pay28 (F := Ideal) D k0_pay12 k0_pay13 B (ix2 q l) = ((Nat.count S n : ℕ) : EReal) := by
  pointwise [k0_pay28]
  exact rank_block 4 q n hn hS (block4 h) (seen4 h)

/-- Eight blocks of rows, one under another. -/
theorem eight_blocks (r : Fin 1024) (y : EReal) (f0 f1 f2 f3 f4 f5 f6 f7 : Fin 128 → EReal)
    (h0 : ∀ q, r.val = 128 * 0 + q.val → f0 q = y) (h1 : ∀ q, r.val = 128 * 1 + q.val → f1 q = y) (h2 : ∀ q, r.val = 128 * 2 + q.val → f2 q = y)
    (h3 : ∀ q, r.val = 128 * 3 + q.val → f3 q = y) (h4 : ∀ q, r.val = 128 * 4 + q.val → f4 q = y) (h5 : ∀ q, r.val = 128 * 5 + q.val → f5 q = y)
    (h6 : ∀ q, r.val = 128 * 6 + q.val → f6 q = y) (h7 : ∀ q, r.val = 128 * 7 + q.val → f7 q = y)
    (hlast : ¬ r.val - 128 - 128 - 128 - 128 - 128 - 128 < 128 → r.val - 128 - 128 - 128 - 128 - 128 - 128 - 128 < 128) :
    (if h : r.val < 128 then f0 ⟨r.val, h⟩ else if h : r.val - 128 < 128 then f1 ⟨r.val - 128, h⟩ else if h : r.val - 128 - 128 < 128 then f2 ⟨r.val - 128 - 128, h⟩
      else if h : r.val - 128 - 128 - 128 < 128 then f3 ⟨r.val - 128 - 128 - 128, h⟩ else if h : r.val - 128 - 128 - 128 - 128 < 128 then f4 ⟨r.val - 128 - 128 - 128 - 128, h⟩
      else if h : r.val - 128 - 128 - 128 - 128 - 128 < 128 then f5 ⟨r.val - 128 - 128 - 128 - 128 - 128, h⟩
      else if h : r.val - 128 - 128 - 128 - 128 - 128 - 128 < 128 then f6 ⟨r.val - 128 - 128 - 128 - 128 - 128 - 128, h⟩
      else f7 ⟨r.val - 128 - 128 - 128 - 128 - 128 - 128 - 128, hlast h⟩) = y := by
  have hr := r.isLt
  split_ifs
  · exact h0 _ (by dsimp only; omega)
  · exact h1 _ (by dsimp only; omega)
  · exact h2 _ (by dsimp only; omega)
  · exact h3 _ (by dsimp only; omega)
  · exact h4 _ (by dsimp only; omega)
  · exact h5 _ (by dsimp only; omega)
  · exact h6 _ (by dsimp only; omega)
  · exact h7 _ (by dsimp only; omega)

theorem posts_at {e : Fin 8} (h : Marks D B S (lane e)) (M : IVec S1024x128 1) (B' : FVec Ideal S128x128 .bf16) (hB : ∀ x : Fin 128, B' (ix2 x (lane e)) = B (ix2 x (lane e)))
    (r : Fin 1024) (hM : M (ix2 r (lane e)) = if S r.val then 1#1 else 0#1) :
    posts M D B B' (ix3 0 e r) = if S r.val then ((Nat.count S r.val : ℕ) : EReal) else -1 := by
  pointwise [posts, k0_pay36]
  refine (select_mask hM _ _).trans ?_
  by_cases hS : S r.val
  · rw [if_pos hS, if_pos hS]
    exact eight_blocks r _ (fun q => k0_pay16 (F := Ideal) k0_pay12 k0_pay13 B' (constant S128x128 .f32 0x00000000#32) (ix2 q (lane e)))
      (fun q => k0_pay19 (F := Ideal) D k0_pay12 k0_pay13 B (ix2 q (lane e))) (fun q => k0_pay22 (F := Ideal) D k0_pay12 k0_pay13 B (ix2 q (lane e)))
      (fun q => k0_pay25 (F := Ideal) D k0_pay12 k0_pay13 B (ix2 q (lane e))) (fun q => k0_pay28 (F := Ideal) D k0_pay12 k0_pay13 B (ix2 q (lane e)))
      (fun q => (∑ x : Fin 128, k0_pay12 (F := Ideal) (ix2 q x) * k0_pay31 (F := Ideal) D (ix2 x (lane e))) + k0_pay30 (F := Ideal) (k0_pay26 D k0_pay13 B) (k0_pay29 D) (ix2 0 (lane e)) - 1)
      (fun q => (∑ x : Fin 128, k0_pay12 (F := Ideal) (ix2 q x) * k0_pay33 (F := Ideal) D (ix2 x (lane e))) + k0_pay32 (F := Ideal) D (k0_pay26 D k0_pay13 B) (k0_pay29 D) (ix2 0 (lane e)) - 1)
      (fun q => (∑ x : Fin 128, k0_pay12 (F := Ideal) (ix2 q x) * k0_pay35 (F := Ideal) D (ix2 x (lane e))) + k0_pay34 (F := Ideal) D (k0_pay26 D k0_pay13 B) (k0_pay29 D) (ix2 0 (lane e)) - 1)
      (fun q hq => rank0 h B' hB q _ hq hS) (fun q hq => rank1 h q _ hq hS) (fun q hq => rank2 h q _ hq hS) (fun q hq => rank3 h q _ hq hS) (fun q hq => rank4 h q _ hq hS)
      (fun q hq => rank_block 5 q _ hq hS (block5 h) (seen5 h)) (fun q hq => rank_block 6 q _ hq hS (block6 h) (seen6 h)) (fun q hq => rank_block 7 q _ hq hS (block7 h) (seen7 h)) (fun _ => by have := r.isLt; omega)
  · rw [if_neg hS, if_neg hS]
    exact ofBits_neg_one

/-! ## A tile -/

variable {X : Vec Ideal S1024x1024 .f32} {g : Vec Ideal S1x1024 .f32} {R : Vec Ideal S1024x128 .f32}

/-- The first block of rows of the chosen lanes, at the two widths. -/
abbrev firstBlock (X : Vec Ideal S1024x1024 .f32) (g : Vec Ideal S1x1024 .f32) (R : Vec Ideal S1024x128 .f32) : FVec Ideal S128x128 .f32 :=
  k0_pay14 (F := Ideal) nums (k0_pay5 (F := Ideal) X g R) (k0_pay6 (F := Ideal) X g R) (k0_pay7 (F := Ideal) X g R)
abbrev firstBlock' (X : Vec Ideal S1024x1024 .f32) (g : Vec Ideal S1x1024 .f32) (R : Vec Ideal S1024x128 .f32) : FVec Ideal S128x128 .bf16 :=
  k0_pay15 (F := Ideal) nums (k0_pay5 (F := Ideal) X g R) (k0_pay6 (F := Ideal) X g R) (k0_pay7 (F := Ideal) X g R)

theorem firstBlock_at (x l : Fin 128) : firstBlock X g R (ix2 x l) = ones X g R (ix2 ⟨x.val, by omega⟩ l) := by
  pointwise [firstBlock, k0_pay14]
theorem firstBlock'_at (x l : Fin 128) : firstBlock' X g R (ix2 x l) = firstBlock X g R (ix2 x l) := by
  pointwise [firstBlock', k0_pay15]

/-- The tile's rows have logits `v`, the greatest two of row `r` at `i r` and `j r`. -/
def Rows (X : Vec Ideal S1024x1024 .f32) (g : Vec Ideal S1x1024 .f32) (R : Vec Ideal S1024x128 .f32) (v : Fin 1024 → Fin 8 → EReal) (i j : ℕ → Fin 8) : Prop :=
  ∀ r : Fin 1024, Row X g R r (v r) (i r.val) (j r.val)

variable {v : Fin 1024 → Fin 8 → EReal} {i j : ℕ → Fin 8}

/-- Row `r` chose expert `e`. -/
abbrev Chose (i j : ℕ → Fin 8) (e : Fin 8) (r : ℕ) : Prop := e = i r ∨ e = j r

theorem marks (h : Rows X g R v i j) (e : Fin 8) : Marks (ones X g R) (firstBlock X g R) (Chose i j e) (lane e) where
  all r := ones_at (h r) e
  first x := (firstBlock_at x (lane e)).trans (by
    rw [ones_at (h ⟨x.val, by omega⟩) e]
    simp only [Chose, Nat.mul_zero, Nat.zero_add])

theorem tile_posts (h : Rows X g R v i j) (e : Fin 8) (r : Fin 1024) :
    posts (mask X g R) (ones X g R) (firstBlock X g R) (firstBlock' X g R) (ix3 0 e r) = if Chose i j e r.val then ((Nat.count (Chose i j e) r.val : ℕ) : EReal) else -1 :=
  posts_at (marks h e) _ _ (fun x => firstBlock'_at x _) r (mask_at (h r) e)

theorem tile_counts (h : Rows X g R v i j) (e : Fin 8) :
    k0_pay37 (F := Ideal) (ones X g R) (k0_pay26 (ones X g R) k0_pay13 (firstBlock X g R)) (k0_pay29 (ones X g R)) (ix3 0 0 (lane e)) = ((Nat.count (Chose i j e) 1024 : ℕ) : EReal) :=
  counts_at (marks h e)

end Cert.KernelIdeal.Route

end
-- ==== Proof.Tiles.lean ====
/- The arrays that the routing call leaves, element by element, from its blocks. -/
module

public import proofs.«01_k».proof.Proof.Run
public import proofs.«01_k».proof.Proof.Positions
public import Idealize.ShloMosaic.Lib.Pipeline.ValueKit
public import Idealize.ShloMosaic.Lib.KernelVsHost

@[expose] public section

set_option maxRecDepth 16384
noncomputable section

namespace Cert.KernelIdeal.Moe

open Cert.KernelIdeal Cert.KernelIdeal.Gen Cert.KernelIdeal.Route
open Idealize.ShloMosaic Idealize.ShloMosaic.TcCoe Idealize.ShloMosaic.Tactic Idealize.SL.Sem
open Idealize.ShloMosaic.Pipeline (Dat Cfg Window)

variable (m : (ℓ : Loc nD τ sig) → Buf (Elt Ideal) ℓ)

/-- The routing call's blocks of point `t`. -/
abbrev xB (c : Dev nD) (t : Fin cfg0.N) : Vec Ideal S1024x1024 .f32 := Own.K0.iblk (F := Ideal) (Own.Ve0 m) c 0 t
abbrev gB (c : Dev nD) (t : Fin cfg0.N) : Vec Ideal S1x1024 .f32 := Own.K0.iblk (F := Ideal) (Own.Ve0 m) c 1 t
abbrev rB (c : Dev nD) (t : Fin cfg0.N) : Vec Ideal S1024x128 .f32 := Own.K0.iblk (F := Ideal) (Own.Ve0 m) c 2 t

/-- The tile of a row, and the row within it. -/
def tileOf (R : Fin 65536) : Fin cfg0.N := ⟨R.val / 1024, by have := R.isLt; show _ < 64; omega⟩
def rowOf (R : Fin 65536) : Fin 1024 := ⟨R.val % 1024, by omega⟩

theorem tile_row {R : Fin 65536} {t : Fin cfg0.N} {r : Fin 1024} (h : R.val = t.val * 1024 + r.val) : tileOf R = t ∧ rowOf R = r := by
  have := r.isLt
  refine ⟨Fin.ext ?_, Fin.ext ?_⟩
  · show R.val / 1024 = t.val; omega
  · show R.val % 1024 = r.val; omega

theorem eq_ix2 {n k : ℕ} {y : (⟨2, ![n, k]⟩ : Shape).Idx} {b : Fin k} (h : b = y 1) : y = ix2 (y 0) b := by
  subst h
  funext a
  fin_cases a <;> rfl

theorem eq_ix3 {n k : ℕ} {y : (⟨3, ![1, n, k]⟩ : Shape).Idx} (h : (y 0).val = 0) : y = ix3 0 (y 1) (y 2) := by
  funext a
  fin_cases a
  · exact Fin.ext h
  · rfl
  · rfl

theorem idx0 (t : Fin cfg0.N) : win0_0.index t 0 = t.val ∧ win0_0.index t 1 = 0 := by revert t; decide +kernel
theorem idx1 (t : Fin cfg0.N) : win0_1.index t 0 = 0 ∧ win0_1.index t 1 = 0 := by revert t; decide +kernel
theorem idx2 (t : Fin cfg0.N) : win0_2.index t 0 = 0 ∧ win0_2.index t 1 = 0 := by revert t; decide +kernel
theorem idx3 (t : Fin cfg0.N) : win0_3.index t 0 = t.val ∧ win0_3.index t 1 = 0 := by revert t; decide +kernel
theorem idx4 (t : Fin cfg0.N) : win0_4.index t 0 = t.val ∧ win0_4.index t 1 = 0 := by revert t; decide +kernel
theorem idx5 (t : Fin cfg0.N) : win0_5.index t 0 = t.val ∧ win0_5.index t 1 = 0 ∧ win0_5.index t 2 = 0 := by revert t; decide +kernel
theorem idx6 (t : Fin cfg0.N) : win0_6.index t 0 = t.val ∧ win0_6.index t 1 = 0 ∧ win0_6.index t 2 = 0 := by revert t; decide +kernel

theorem xn_arr (c : Dev nD) : (dat0 m c).arrAt 3 cfg0.N = fun y : S65536x1024.Idx => k0_pay2 (F := Ideal) (xB m c (tileOf (y 0))) (gB m c (tileOf (y 0))) (ix2 (rowOf (y 0)) (y 1)) := by
  refine (dat0 m c).arrAt_eq_of_covers 3 _ (by decide +kernel) fun t hf (y : S1024x1024.Idx) => ?_
  have e0 : (((View.whole main_v5_0).slice (win0_3.rect t)).emb y 0 : Fin 65536).val = t.val * 1024 + (y 0).val := by blk_simp [(idx3 t).1]
  have e1 : (((View.whole main_v5_0).slice (win0_3.rect t)).emb y 1 : Fin 1024) = y 1 := Fin.ext (by blk_simp [(idx3 t).2])
  blk_simp
  unfold dat0
  rw [Own.K0.after0_3]
  unfold Own.K0.outsAt0
  frame_out
  obtain ⟨h1, h2⟩ := tile_row e0
  show _ = k0_pay2 (F := Ideal) (xB m c (tileOf _)) (gB m c (tileOf _)) (ix2 (rowOf _) _)
  rw [h1, h2]
  exact congrArg _ (eq_ix2 (e1 ▸ rfl))

theorem x_blk (c : Dev nD) (t : Fin cfg0.N) (r k : Fin 1024) : xB m c t (ix2 r k) = m ((c : Thread nD τ).loc main_arg0) (ix2 ⟨t.val * 1024 + r.val, by have h : t.val < 64 := t.isLt; omega⟩ k) := by
  blk_simp [xB, Own.K0.iblk]
  rw [show Own.Ve0 m c main_arg0 = m ((c : Thread nD τ).loc main_arg0) from (V3_of m c main_arg0 (by decide)).trans ((V2_of m c main_arg0 (by decide)).trans (V1_of m c main_arg0 (by decide)))]
  refine congrArg _ ?_
  funext a
  refine Fin.ext ?_
  fin_cases a
  · blk_simp [(idx0 t).1]
    rfl
  · blk_simp [(idx0 t).2]
    rfl

variable (X : Valuation τ sig (Elt Ideal))
theorem gain_row (k : Fin 1024) : StableHlo.after hostOps0_2 X (Proc.devRef .tc main_v4) (ix2 0 k) = X (Proc.devRef .tc main_arg1) (Idealize.ShloMosaic.ix1 k) := by
  after_results
  show (shapeCast S1x1024 (X (Proc.devRef .tc main_arg1) : Vec Ideal S1024 .f32) shapeCasts_S1024_S1x1024 : Vec Ideal S1x1024 .f32) (ix2 0 k) = _
  pointwise
theorem w1_same : StableHlo.after hostOps0_2 X (Proc.devRef .tc main_v1) = X (Proc.devRef .tc main_arg3) := by
  after_results
  rfl
theorem w3_same : StableHlo.after hostOps0_2 X (Proc.devRef .tc main_v2) = X (Proc.devRef .tc main_arg4) := by
  after_results
  rfl
theorem w2_same : StableHlo.after hostOps0_2 X (Proc.devRef .tc main_v3) = X (Proc.devRef .tc main_arg5) := by
  after_results
  rfl
theorem pad_lane (A : Vec Ideal S1024x8 .f32) (z : Vec Ideal S_ .f32) (k : Fin 1024) (e : Fin 8) :
    pad S1024x128 ![0, 0] ![0, 120] ![0, 0] A z pads_S1024x8_S1024x128_000_01200 h_S_ (ix2 k (lane e)) = A (ix2 k e) :=
  pad_apply_of_inside _ _ _ _ _ _ _ _ (ix2 k e) (fun a => by fin_cases a <;> simp [ix2, lane])

theorem router_pad (k : Fin 1024) (e : Fin 8) : StableHlo.after hostOps0_1 X (Proc.devRef .tc main_v0) (ix2 k (lane e)) = X (Proc.devRef .tc main_arg2) (ix2 k e) := by
  after_results
  exact pad_lane _ _ k e

theorem words_at (A : FVec Ideal S64x1x128 .f32) (i : Fin 64) (e : Fin 8) :
    shapeCast S512 (fptosi (F := Ideal) 32 (shapeCast S64x8 (extractStridedSlice S64x1x8 ![0, 0, 0] A slices_S64x1x128_S64x1x8_0_0_0) shapeCasts_S64x1x8_S64x8 : FVec Ideal S64x8 .f32)) shapeCasts_S64x8_S512 (Idealize.ShloMosaic.ix1 ⟨8 * i.val + e.val, by omega⟩)
      = Ideal.fptosi 32 (A (ix3 i 0 (lane e))) := by
  pointwise
  rfl

theorem table_at (i : Fin 64) (e : Fin 8) : StableHlo.after hostOps1 X (Proc.devRef .tc main_v9) (Idealize.ShloMosaic.ix1 ⟨8 * i.val + e.val, by omega⟩) = Ideal.fptosi 32 (X (Proc.devRef .tc main_v5_3) (ix3 i 0 (lane e))) := by
  after_results
  exact words_at _ i e

theorem comb_arr (c : Dev nD) : (dat0 m c).arrAt 4 cfg0.N = fun y : S65536x128.Idx => gates (xB m c (tileOf (y 0))) (gB m c (tileOf (y 0))) (rB m c (tileOf (y 0))) (ix2 (rowOf (y 0)) (y 1)) := by
  refine (dat0 m c).arrAt_eq_of_covers 4 _ (by decide +kernel) fun t hf (y : S1024x128.Idx) => ?_
  have e0 : (((View.whole main_v5_1).slice (win0_4.rect t)).emb y 0 : Fin 65536).val = t.val * 1024 + (y 0).val := by blk_simp [(idx4 t).1]
  have e1 : (((View.whole main_v5_1).slice (win0_4.rect t)).emb y 1 : Fin 128) = y 1 := Fin.ext (by blk_simp [(idx4 t).2])
  blk_simp
  unfold dat0
  rw [Own.K0.after0_4]
  unfold Own.K0.outsAt0
  frame_out
  obtain ⟨h1, h2⟩ := tile_row e0
  show _ = gates (xB m c (tileOf _)) (gB m c (tileOf _)) (rB m c (tileOf _)) (ix2 (rowOf _) _)
  rw [h1, h2]
  exact congrArg (gates (xB m c t) (gB m c t) (rB m c t)) (eq_ix2 (e1 ▸ rfl))

theorem post_arr (c : Dev nD) : (dat0 m c).arrAt 5 cfg0.N = fun y : S64x8x1024.Idx => posts (mask (xB m c (y 0)) (gB m c (y 0)) (rB m c (y 0))) (ones (xB m c (y 0)) (gB m c (y 0)) (rB m c (y 0))) (firstBlock (xB m c (y 0)) (gB m c (y 0)) (rB m c (y 0))) (firstBlock' (xB m c (y 0)) (gB m c (y 0)) (rB m c (y 0))) (ix3 0 (y 1) (y 2)) := by
  refine (dat0 m c).arrAt_eq_of_covers 5 _ (by decide +kernel) fun t hf (y : S1x8x1024.Idx) => ?_
  have y0 : (y 0).val = 0 := by have h : (y 0).val < 1 := (y 0).isLt; omega
  have e0 : (((View.whole main_v5_2).slice (win0_5.rect t)).emb y 0 : Fin 64) = t := Fin.ext (by blk_simp [(idx5 t).1])
  have e1 : (((View.whole main_v5_2).slice (win0_5.rect t)).emb y 1 : Fin 8) = y 1 := Fin.ext (by blk_simp [(idx5 t).2.1])
  have e2 : (((View.whole main_v5_2).slice (win0_5.rect t)).emb y 2 : Fin 1024) = y 2 := Fin.ext (by blk_simp [(idx5 t).2.2])
  blk_simp
  unfold dat0
  rw [Own.K0.after0_5]
  unfold Own.K0.outsAt0
  frame_out
  show _ = posts (mask (xB m c (_ : Fin 64)) _ _) _ _ _ (ix3 0 (_ : Fin 8) (_ : Fin 1024))
  rw [e0, e1, e2]
  exact congrArg (posts (mask (xB m c t) (gB m c t) (rB m c t)) (ones (xB m c t) (gB m c t) (rB m c t)) (firstBlock (xB m c t) (gB m c t) (rB m c t)) (firstBlock' (xB m c t) (gB m c t) (rB m c t))) (eq_ix3 y0)

theorem cnt_arr (c : Dev nD) : (dat0 m c).arrAt 6 cfg0.N = fun y : S64x1x128.Idx => k0_pay37 (F := Ideal) (ones (xB m c (y 0)) (gB m c (y 0)) (rB m c (y 0))) (k0_pay26 (ones (xB m c (y 0)) (gB m c (y 0)) (rB m c (y 0))) k0_pay13 (firstBlock (xB m c (y 0)) (gB m c (y 0)) (rB m c (y 0)))) (k0_pay29 (ones (xB m c (y 0)) (gB m c (y 0)) (rB m c (y 0)))) (ix3 0 0 (y 2)) := by
  refine (dat0 m c).arrAt_eq_of_covers 6 _ (by decide +kernel) fun t hf (y : S1x1x128.Idx) => ?_
  have y0 : (y 0).val = 0 := by have h : (y 0).val < 1 := (y 0).isLt; omega
  have e0 : (((View.whole main_v5_3).slice (win0_6.rect t)).emb y 0 : Fin 64) = t := Fin.ext (by blk_simp [(idx6 t).1])
  have e2 : (((View.whole main_v5_3).slice (win0_6.rect t)).emb y 2 : Fin 128) = y 2 := Fin.ext (by blk_simp [(idx6 t).2.2])
  blk_simp
  unfold dat0
  rw [Own.K0.after0_6]
  unfold Own.K0.outsAt0
  frame_out
  show _ = k0_pay37 (F := Ideal) (ones (xB m c (_ : Fin 64)) _ _) _ _ (ix3 0 0 (_ : Fin 128))
  rw [e0, e2]
  refine congrArg (k0_pay37 (F := Ideal) (ones (xB m c t) (gB m c t) (rB m c t)) (k0_pay26 (ones (xB m c t) (gB m c t) (rB m c t)) k0_pay13 (firstBlock (xB m c t) (gB m c t) (rB m c t))) (k0_pay29 (ones (xB m c t) (gB m c t) (rB m c t)))) ((eq_ix3 y0).trans ?_)
  exact congrArg (fun b : Fin 1 => ix3 0 b (y 2)) (Subsingleton.elim (α := Fin 1) (y 1) 0)

end Cert.KernelIdeal.Moe

end
-- ==== Proof.Points.lean ====
/- What one point of the second kernel computes, element by element: each bucket's four payloads over the extended reals. -/
module

public import proofs.«01_k».proof.Proof.Body
public import Idealize.ShloMosaic.Lib.Pointwise
public import Idealize.ShloMosaic.Lib.ValueIdx
public import Idealize.ShloMosaic.Lib.VecWindow

@[expose] public section

set_option maxRecDepth 16384
noncomputable section

namespace Cert.KernelIdeal.Moe

open Cert.KernelIdeal Cert.KernelIdeal.Gen
open Idealize.ShloMosaic

/-- One column of an expert's hidden layer at a row `v`, and its share of the results: the sum over the hidden columns of a tile. -/
def hid (v : Fin 1024 → EReal) (a b : Fin 1024 → EReal) : EReal :=
  (∑ k, v k * a k) * Ideal.logistic (∑ k, v k * a k) * ∑ k, v k * b k

def half (v : Fin 1024 → EReal) (w1 w3 : Vec Ideal S1x1024x1792 .bf16) (w2 : Vec Ideal S1x1792x1024 .bf16) (c : Fin 1024) : EReal :=
  ∑ f : Fin 1792, hid v (fun k => w1 (ix3 0 k f)) (fun k => w3 (ix3 0 k f)) * w2 (ix3 0 f c)

/-- The row's position, read as a word, is `s`. -/
abbrev At (P : Vec Ideal S1x1x1024 .f32) (s : ℕ) (r : Fin 1024) : Prop := Ideal.fptosi 32 (P (ix3 0 0 r)) = BitVec.ofNat 32 s

theorem select_eq_ite {α : Type} {w : ℕ} (a b : BitVec w) (x y : α) : Scalar.select (IntOp.cmpi .eq a b) x y = if a = b then x else y := by
  unfold Scalar.select
  by_cases h : a = b
  · rw [if_pos h, if_pos]; subst h; simp [IntOp.cmpi]
  · rw [if_neg h, if_neg]
    have : (a == b) = false := by simpa using h
    simp [IntOp.cmpi, this]

/-- A bucket of `n` rows whose payloads are the gather, the tile's results, the sum and the scatter. -/
structure Bucket.Reads (B : Bucket Ideal) (n : ℕ) : Prop where
  d0 : B.d 0 = n
  d1 : B.d 1 = 1024
  le : n ≤ 1024
  gather : ∀ P X (j : (⟨2, B.d⟩ : Shape).Idx) (s : ℕ) (c : Fin 1024), (j 0).val = s → (j 1).val = c.val →
    B.gather P X j = ∑ r : Fin 1024, if At P s r then X (ix2 r c) else 0
  hidden : ∀ X w1 w3 w2 (j : (⟨2, B.d⟩ : Shape).Idx) (c : Fin 1024) (v : Fin 1024 → EReal), (j 1).val = c.val →
    (∀ (i : (⟨2, B.d⟩ : Shape).Idx) (k : Fin 1024), (i 0).val = (j 0).val → (i 1).val = k.val → X i = v k) →
    B.hidden X w1 w3 w2 j = half v w1 w3 w2 c
  accum : ∀ X w1 w3 w2 Y (j : (⟨2, B.d⟩ : Shape).Idx), B.accum X w1 w3 w2 Y j = Y j + B.hidden X w1 w3 w2 j
  scatter : ∀ (i : grid1.Coords) C O P Y (r c : Fin 1024) (y : Fin n → EReal),
    (∀ (j : (⟨2, B.d⟩ : Shape).Idx) (s : Fin n), (j 0).val = s.val → (j 1).val = c.val → Y j = y s) →
    B.scatter i C O P Y (ix2 r c) = O (ix2 r c) + (∑ x : Fin 128, if BitVec.ofNat 32 x.val = BitVec.ofNat 32 (i 1).val then C (ix2 r x) else 0) * ∑ s : Fin n, if At P s.val r then y s else 0

theorem reads256 : (bucket256 : Bucket Ideal).Reads 256 where
  d0 := rfl
  d1 := rfl
  le := by decide
  gather := fun P X (j : S256x1024.Idx) s c hs hc => by
    show k1_pay11 (F := Ideal) P X j = _
    idx_vars j
    subst hs
    obtain rfl : _ = c := Fin.ext hc
    pointwise [k1_pay11]
    simp only [select_eq_ite]
    rfl
  hidden := fun X w1 w3 w2 (j : S256x1024.Idx) c v hc hX => by
    show k1_pay13 (F := Ideal) X w1 w3 w2 j = _
    idx_vars j
    obtain rfl : _ = c := Fin.ext hc
    pointwise [k1_pay13, k1_pay12]
    simp only [fun k : Fin 1024 => hX (ix2 _ k) k rfl rfl, half, hid]
  accum := fun X w1 w3 w2 Y (j : S256x1024.Idx) => by
    show k1_pay14 (F := Ideal) X w1 w3 w2 Y j = Y j + k1_pay13 (F := Ideal) X w1 w3 w2 j
    idx_vars j
    pointwise [k1_pay14, k1_pay13]
  scatter := fun i C O P (Y : Vec Ideal S256x1024 .f32) r c y hY => by
    show k1_pay15 (F := Ideal) i C O P Y (ix2 r c) = _
    pointwise [k1_pay15]
    simp only [select_eq_ite, fun s : Fin 256 => hY (ix2 s c) s rfl rfl]
    rfl

theorem reads288 : (bucket288 : Bucket Ideal).Reads 288 where
  d0 := rfl
  d1 := rfl
  le := by decide
  gather := fun P X (j : S288x1024.Idx) s c hs hc => by
    show k1_pay16 (F := Ideal) P X j = _
    idx_vars j
    subst hs
    obtain rfl : _ = c := Fin.ext hc
    pointwise [k1_pay16]
    simp only [select_eq_ite]
    rfl
  hidden := fun X w1 w3 w2 (j : S288x1024.Idx) c v hc hX => by
    show k1_pay18 (F := Ideal) X w1 w3 w2 j = _
    idx_vars j
    obtain rfl : _ = c := Fin.ext hc
    pointwise [k1_pay18, k1_pay17]
    simp only [fun k : Fin 1024 => hX (ix2 _ k) k rfl rfl, half, hid]
  accum := fun X w1 w3 w2 Y (j : S288x1024.Idx) => by
    show k1_pay19 (F := Ideal) X w1 w3 w2 Y j = Y j + k1_pay18 (F := Ideal) X w1 w3 w2 j
    idx_vars j
    pointwise [k1_pay19, k1_pay18]
  scatter := fun i C O P (Y : Vec Ideal S288x1024 .f32) r c y hY => by
    show k1_pay20 (F := Ideal) i C O P Y (ix2 r c) = _
    pointwise [k1_pay20]
    simp only [select_eq_ite, fun s : Fin 288 => hY (ix2 s c) s rfl rfl]
    rfl

theorem reads320 : (bucket320 : Bucket Ideal).Reads 320 where
  d0 := rfl
  d1 := rfl
  le := by decide
  gather := fun P X (j : S320x1024.Idx) s c hs hc => by
    show k1_pay21 (F := Ideal) P X j = _
    idx_vars j
    subst hs
    obtain rfl : _ = c := Fin.ext hc
    pointwise [k1_pay21]
    simp only [select_eq_ite]
    rfl
  hidden := fun X w1 w3 w2 (j : S320x1024.Idx) c v hc hX => by
    show k1_pay23 (F := Ideal) X w1 w3 w2 j = _
    idx_vars j
    obtain rfl : _ = c := Fin.ext hc
    pointwise [k1_pay23, k1_pay22]
    simp only [fun k : Fin 1024 => hX (ix2 _ k) k rfl rfl, half, hid]
  accum := fun X w1 w3 w2 Y (j : S320x1024.Idx) => by
    show k1_pay24 (F := Ideal) X w1 w3 w2 Y j = Y j + k1_pay23 (F := Ideal) X w1 w3 w2 j
    idx_vars j
    pointwise [k1_pay24, k1_pay23]
  scatter := fun i C O P (Y : Vec Ideal S320x1024 .f32) r c y hY => by
    show k1_pay25 (F := Ideal) i C O P Y (ix2 r c) = _
    pointwise [k1_pay25]
    simp only [select_eq_ite, fun s : Fin 320 => hY (ix2 s c) s rfl rfl]
    rfl

theorem reads384 : (bucket384 : Bucket Ideal).Reads 384 where
  d0 := rfl
  d1 := rfl
  le := by decide
  gather := fun P X (j : S384x1024.Idx) s c hs hc => by
    show k1_pay26 (F := Ideal) P X j = _
    idx_vars j
    subst hs
    obtain rfl : _ = c := Fin.ext hc
    pointwise [k1_pay26]
    simp only [select_eq_ite]
    rfl
  hidden := fun X w1 w3 w2 (j : S384x1024.Idx) c v hc hX => by
    show k1_pay28 (F := Ideal) X w1 w3 w2 j = _
    idx_vars j
    obtain rfl : _ = c := Fin.ext hc
    pointwise [k1_pay28, k1_pay27]
    simp only [fun k : Fin 1024 => hX (ix2 _ k) k rfl rfl, half, hid]
  accum := fun X w1 w3 w2 Y (j : S384x1024.Idx) => by
    show k1_pay29 (F := Ideal) X w1 w3 w2 Y j = Y j + k1_pay28 (F := Ideal) X w1 w3 w2 j
    idx_vars j
    pointwise [k1_pay29, k1_pay28]
  scatter := fun i C O P (Y : Vec Ideal S384x1024 .f32) r c y hY => by
    show k1_pay30 (F := Ideal) i C O P Y (ix2 r c) = _
    pointwise [k1_pay30]
    simp only [select_eq_ite, fun s : Fin 384 => hY (ix2 s c) s rfl rfl]
    rfl

theorem reads512 : (bucket512 : Bucket Ideal).Reads 512 where
  d0 := rfl
  d1 := rfl
  le := by decide
  gather := fun P X (j : S512x1024.Idx) s c hs hc => by
    show k1_pay1 (F := Ideal) P X j = _
    idx_vars j
    subst hs
    obtain rfl : _ = c := Fin.ext hc
    pointwise [k1_pay1]
    simp only [select_eq_ite]
    rfl
  hidden := fun X w1 w3 w2 (j : S512x1024.Idx) c v hc hX => by
    show k1_pay3 (F := Ideal) X w1 w3 w2 j = _
    idx_vars j
    obtain rfl : _ = c := Fin.ext hc
    pointwise [k1_pay3, k1_pay2]
    simp only [fun k : Fin 1024 => hX (ix2 _ k) k rfl rfl, half, hid]
  accum := fun X w1 w3 w2 Y (j : S512x1024.Idx) => by
    show k1_pay4 (F := Ideal) X w1 w3 w2 Y j = Y j + k1_pay3 (F := Ideal) X w1 w3 w2 j
    idx_vars j
    pointwise [k1_pay4, k1_pay3]
  scatter := fun i C O P (Y : Vec Ideal S512x1024 .f32) r c y hY => by
    show k1_pay5 (F := Ideal) (BitVec.ofNat 32 (i 1).val) C O P Y (ix2 r c) = _
    pointwise [k1_pay5]
    simp only [select_eq_ite, fun s : Fin 512 => hY (ix2 s c) s rfl rfl]
    rfl

theorem reads1024 : (bucket1024 : Bucket Ideal).Reads 1024 where
  d0 := rfl
  d1 := rfl
  le := by decide
  gather := fun P X (j : S1024x1024.Idx) s c hs hc => by
    show k1_pay6 (F := Ideal) P X j = _
    idx_vars j
    subst hs
    obtain rfl : _ = c := Fin.ext hc
    pointwise [k1_pay6]
    simp only [select_eq_ite]
    rfl
  hidden := fun X w1 w3 w2 (j : S1024x1024.Idx) c v hc hX => by
    show k1_pay8 (F := Ideal) X w1 w3 w2 j = _
    idx_vars j
    obtain rfl : _ = c := Fin.ext hc
    pointwise [k1_pay8, k1_pay7]
    simp only [fun k : Fin 1024 => hX (ix2 _ k) k rfl rfl, half, hid]
  accum := fun X w1 w3 w2 Y (j : S1024x1024.Idx) => by
    show k1_pay9 (F := Ideal) X w1 w3 w2 Y j = Y j + k1_pay8 (F := Ideal) X w1 w3 w2 j
    idx_vars j
    pointwise [k1_pay9, k1_pay8]
  scatter := fun i C O P (Y : Vec Ideal S1024x1024 .f32) r c y hY => by
    show k1_pay10 (F := Ideal) (BitVec.ofNat 32 (i 1).val) C O P Y (ix2 r c) = _
    pointwise [k1_pay10]
    simp only [select_eq_ite, fun s : Fin 1024 => hY (ix2 s c) s rfl rfl]
    rfl

end Cert.KernelIdeal.Moe
-- ==== Proof.Experts.lean ====
/- An expert's two points: what they add to each row of a tile, from the rows that chose the expert and their positions. -/
module

public import proofs.«01_k».proof.Proof.Points
public import proofs.«01_k».proof.Proof.Region
public import proofs.«01_k».proof.Proof.Positions

@[expose] public section

set_option maxRecDepth 16384
noncomputable section

namespace Cert.KernelIdeal.Moe

open Cert.KernelIdeal Cert.KernelIdeal.Gen Cert.KernelIdeal.Route
open Idealize.ShloMosaic Idealize.ShloMosaic.TcCoe

/-! ## One bucket -/

section
variable {B : Bucket Ideal} {n : ℕ} (h : B.Reads n) {S : ℕ → Prop} [DecidablePred S] {P : Vec Ideal S1x1x1024 .f32}

/-- The positions of the rows in `S` are their ranks, and the other rows have none. -/
def Ranks (S : ℕ → Prop) [DecidablePred S] (P : Vec Ideal S1x1x1024 .f32) : Prop :=
  ∀ r : Fin 1024, P (ix3 0 0 r) = if S r.val then ((Nat.count S r.val : ℕ) : EReal) else -1

theorem Ranks.unique {S : ℕ → Prop} [DecidablePred S] {P P' : Vec Ideal S1x1x1024 .f32} (h : Ranks S P) (h' : Ranks S P') : P = P' := by
  funext y
  have e : y = ix3 0 0 (y 2) := funext fun a => match a with
    | ⟨0, _⟩ => Subsingleton.elim (α := Fin 1) (y 0) 0
    | ⟨1, _⟩ => Subsingleton.elim (α := Fin 1) (y 1) 0
    | ⟨2, _⟩ => rfl
  rw [e]
  exact (h (y 2)).trans (h' (y 2)).symm

theorem count_le (S : ℕ → Prop) [DecidablePred S] (k : ℕ) : Nat.count S k ≤ k := by
  induction k with
  | zero => simp
  | succ k ih => rw [Nat.count_succ]; split <;> omega

theorem toInt_ofNat {k : ℕ} (h : k ≤ 1024) : (BitVec.ofNat 32 k).toInt = k := by
  have e : (BitVec.ofNat 32 k).toNat = k := by rw [BitVec.toNat_ofNat, Nat.mod_eq_of_lt (by omega)]
  rw [BitVec.toInt_eq_toNat_of_lt (by omega), e]

theorem at_iff (hP : Ranks S P) (r : Fin 1024) (s : ℕ) (hs : s < 1024) : At P s r ↔ S r.val ∧ Nat.count S r.val = s := by
  have hc := count_le S r.val
  have hr := r.isLt
  unfold At
  rw [hP r]
  by_cases hS : S r.val
  · rw [if_pos hS, Choice.fptosi_natCast _ (by omega), ofNat_inj (by omega) (by omega)]
    exact ⟨fun e => ⟨hS, e⟩, fun e => e.2⟩
  · rw [if_neg hS, Choice.fptosi_neg_one]
    refine ⟨fun e => absurd (congrArg BitVec.toNat e) ?_, fun e => absurd e.1 hS⟩
    rw [BitVec.toNat_ofNat, BitVec.toNat_ofNat]
    omega

theorem rank_lt {r : Fin 1024} (hS : S r.val) : Nat.count S r.val < Nat.count S 1024 :=
  Nat.count_strict_mono hS r.isLt

include h in
/-- The row gathered at a chosen row's rank is that row. -/
theorem gather_row (hP : Ranks S P) (X : Vec Ideal S1024x1024 .bf16) {r : Fin 1024} (hS : S r.val)
    (j : (⟨2, B.d⟩ : Shape).Idx) (c : Fin 1024) (h0 : (j 0).val = Nat.count S r.val) (h1 : (j 1).val = c.val) :
    B.gather P X j = X (ix2 r c) := by
  have hc := count_le S r.val
  have hr := r.isLt
  rw [h.gather P X j _ c h0 h1, Finset.sum_eq_single r]
  · exact if_pos ((at_iff hP r _ (by omega)).2 ⟨hS, rfl⟩)
  · intro r' _ hne
    refine if_neg fun e => hne (Fin.ext ?_)
    obtain ⟨hS', e'⟩ := (at_iff hP r' _ (by omega)).1 e
    exact Nat.count_injective hS' hS e'
  · exact fun e => absurd (Finset.mem_univ r) e

include h in
theorem hidden_row (hP : Ranks S P) (X : Vec Ideal S1024x1024 .bf16) (w1 w3 : Vec Ideal S1x1024x1792 .bf16) (w2 : Vec Ideal S1x1792x1024 .bf16)
    {r : Fin 1024} (hS : S r.val) (j : (⟨2, B.d⟩ : Shape).Idx) (c : Fin 1024) (h0 : (j 0).val = Nat.count S r.val) (h1 : (j 1).val = c.val) :
    B.hidden (B.gather P X) w1 w3 w2 j = half (fun k => X (ix2 r k)) w1 w3 w2 c :=
  h.hidden _ _ _ _ j c _ h1 fun i k e0 e1 => gather_row h hP X hS i k (e0.trans h0) e1

/-- A position of the bucket's block. -/
def Bucket.Reads.at (s : Fin n) (c : Fin 1024) : (⟨2, B.d⟩ : Shape).Idx := fun a =>
  ⟨(![s.val, c.val] : Fin 2 → ℕ) a, by
    match a with
    | ⟨0, _⟩ => exact lt_of_lt_of_eq s.isLt h.d0.symm
    | ⟨1, _⟩ => exact lt_of_lt_of_eq c.isLt h.d1.symm⟩

theorem Bucket.Reads.at_eq (s : Fin n) (c : Fin 1024) (j : (⟨2, B.d⟩ : Shape).Idx) (h0 : (j 0).val = s.val) (h1 : (j 1).val = c.val) : j = h.at s c := by
  funext a
  match a with
  | ⟨0, _⟩ => exact Fin.ext h0
  | ⟨1, _⟩ => exact Fin.ext h1

include h in
/-- What the bucket adds to a row: its share of the expert's result if it chose the expert, and nothing if not. -/
theorem scatter_row (hP : Ranks S P) (hn : Nat.count S 1024 ≤ n) (X : Vec Ideal S1024x1024 .bf16)
    (w1 w3 : Vec Ideal S1x1024x1792 .bf16) (w2 : Vec Ideal S1x1792x1024 .bf16) (w1' w3' : Vec Ideal S1x1024x1792 .bf16) (w2' : Vec Ideal S1x1792x1024 .bf16)
    (i : grid1.Coords) (e : Fin 8) (he : (i 1).val = e.val) (C : Vec Ideal S1024x128 .f32) (O : Vec Ideal S1024x1024 .f32) (r c : Fin 1024) :
    B.scatter i C O P (B.accum (B.gather P X) w1' w3' w2' (B.hidden (B.gather P X) w1 w3 w2)) (ix2 r c)
      = O (ix2 r c) + C (ix2 r (lane e)) * if S r.val then half (fun k => X (ix2 r k)) w1 w3 w2 c + half (fun k => X (ix2 r k)) w1' w3' w2' c else 0 := by
  rw [h.scatter i C O P _ r c (fun s => B.accum (B.gather P X) w1' w3' w2' (B.hidden (B.gather P X) w1 w3 w2) (h.at s c))
    fun j s h0 h1 => congrArg _ (h.at_eq s c j h0 h1)]
  congr 1
  have hle := h.le
  congr 1
  · rw [Finset.sum_eq_single (lane e)]
    · exact if_pos (by rw [he]; rfl)
    · intro x _ hx
      refine if_neg fun e' => hx (Fin.ext ?_)
      rw [ofNat_inj (by have := x.isLt; omega) (by have := e.isLt; omega), he] at e'
      exact e'
    · exact fun e => absurd (Finset.mem_univ _) e
  · by_cases hS : S r.val
    · have hlt := lt_of_lt_of_le (rank_lt hS) hn
      rw [if_pos hS, Finset.sum_eq_single ⟨Nat.count S r.val, hlt⟩]
      · rw [if_pos ((at_iff hP r _ (by omega)).2 ⟨hS, rfl⟩), h.accum,
          hidden_row h hP X w1 w3 w2 hS _ c rfl rfl, hidden_row h hP X w1' w3' w2' hS _ c rfl rfl]
      · intro s _ hs
        refine if_neg fun e' => hs (Fin.ext ?_)
        exact ((at_iff hP r _ (by have := s.isLt; omega)).1 e').2.symm
      · exact fun e => absurd (Finset.mem_univ _) e
    · rw [if_neg hS]
      refine Finset.sum_eq_zero fun s _ => if_neg fun e' => hS ?_
      exact ((at_iff hP r _ (by have := s.isLt; omega)).1 e').1

end

/-! ## The two points -/

/-- Where a bucket reads the positions. -/
theorem Serves.reads {B : Bucket Ideal} {w : BitVec 32} (h : Serves B w) :
    ∃ n : ℕ, B.Reads n ∧ w.toInt ≤ n
      ∧ (∀ i : grid1.Coords, B.offP i = ![0, (BitVec.ofNat 32 (i 1).val).toNat, 0]) ∧ (∀ i : grid1.Coords, B.offQ i = ![0, (BitVec.ofNat 32 (i 1).val).toNat, 0]) := by
  obtain ⟨h, hl⟩ := h
  rcases h with rfl | rfl | rfl | rfl | rfl | rfl
  · exact ⟨256, reads256, ((live256 w).1 hl).2, fun _ => rfl, fun _ => rfl⟩
  · exact ⟨288, reads288, ((live288 w).1 hl).2, fun _ => rfl, fun _ => rfl⟩
  · exact ⟨320, reads320, ((live320 w).1 hl).2, fun _ => rfl, fun _ => rfl⟩
  · exact ⟨384, reads384, ((live384 w).1 hl).2, fun _ => rfl, fun _ => rfl⟩
  · exact ⟨512, reads512, ((live512 w).1 hl).2, fun _ => rfl, fun _ => rfl⟩
  · exact ⟨1024, reads1024, ((live1024 w).1 hl).2, fun _ => rfl, fun _ => rfl⟩

/-- A row of the positions' block. -/
def row (post : Vec Ideal S1x8x1024 .f32) (e : Fin 8) : Vec Ideal S1x1x1024 .f32 := fun y => post (ix3 0 e (y 2))

theorem window_row (post : Vec Ideal S1x8x1024 .f32) (e : Fin 8) (off : Fin 3 → ℕ) (inb : ∀ a, off a + S1x1x1024.size a ≤ S1x8x1024.size a) (h : off = ![0, e.val, 0]) :
    VecWindow.window (s := S1x8x1024) post off S1x1x1024.size inb = row post e := by
  subst h
  funext y
  refine congrArg post (funext fun a => Fin.ext ?_)
  match a with
  | ⟨0, _⟩ => have h : (y 0).val < 1 := (y 0).isLt; show 0 + 1 * (y 0).val = 0; omega
  | ⟨1, _⟩ => have h : (y 1).val < 1 := (y 1).isLt; show e.val + 1 * (y 1).val = e.val; omega
  | ⟨2, _⟩ => show 0 + 1 * (y 2).val = (y 2).val; omega

variable (a : (pcfg1 (F := Ideal)).Adm) (V : (c : Dev nD) → (b : Ref sig .tc) → Buf (Elt Ideal) ((c : Thread nD τ).loc b)) (c : Dev nD)

/-- The output block as a body finds it: the residual block at the first point of a tile. -/
def before (t : Fin grid1.N) : Vec Ideal S1024x1024 .f32 := if t.val % 16 = 0 then (blks a V c t).x else (tr a V c t.val).out

theorem pair (t t' : Fin grid1.N) (ht' : t'.val = t.val + 1) (ht : t.val % 2 = 0) (e : Fin 8) (he : t.val % 16 / 2 = e.val)
    {S : ℕ → Prop} [DecidablePred S] (hP : Ranks S (row (blks a V c t).post e)) (hP' : Ranks S (row (blks a V c t').post e))
    (hcnt : cnt a t.val = BitVec.ofNat 32 (Nat.count S 1024)) (r k : Fin 1024) :
    (tr a V c (t.val + 2)).out (ix2 r k)
      = before a V c t (ix2 r k) + (blks a V c t').comb (ix2 r (lane e)) * if S r.val then half (fun k => (blks a V c t).xn (ix2 r k)) (blks a V c t).w1 (blks a V c t).w3 (blks a V c t).w2 k
          + half (fun k => (blks a V c t).xn (ix2 r k)) (blks a V c t').w1 (blks a V c t').w3 (blks a V c t').w2 k else 0 := by
  have e2 : tr a V c (t.val + 2) = bodyStep (grid1.coords t') (cnt a t.val) (blks a V c t') (tr a V c (t.val + 1)) := by
    rw [← cnt_succ a t ht, ← ht', ← tr_succ a V c t', ht']
  have e1 := tr_succ a V c t
  have hb : (tr a V c (t.val + 1)).out = before a V c t := by rw [e1, bodyStep_out_keep t _ _ _ (.inl ht)]; rfl
  have hle := count_le S 1024
  rw [e2]
  by_cases hs : ∃ B : Bucket Ideal, Serves B (cnt a t.val)
  · obtain ⟨B, hB⟩ := hs
    obtain ⟨n, hR, hn, hp, hq⟩ := hB.reads
    have hw : (BitVec.ofNat 32 (Nat.count S 1024)).toInt = Nat.count S 1024 := toInt_ofNat (by omega)
    rw [hcnt, hw] at hn
    obtain ⟨-, c1, -⟩ := coords1 t
    obtain ⟨-, c1', -⟩ := coords1 t'
    have hi : (grid1.coords t 1).val = e.val := c1.trans he
    have hi' : (grid1.coords t' 1).val = e.val := c1'.trans (by omega)
    have hm : ∀ i : grid1.Coords, (i 1).val = e.val → (![0, (BitVec.ofNat 32 (i 1).val).toNat, 0] : Fin 3 → ℕ) = ![0, e.val, 0] := fun i hi => by
      have := e.isLt
      rw [hi, BitVec.toNat_ofNat, Nat.mod_eq_of_lt (by omega)]
    rw [bodyStep_out_second t' (by omega) hB]
    obtain ⟨g1, g2⟩ := bodyStep_first t ht hB (blks a V c t) (tr a V c t.val)
    rw [← e1] at g1 g2
    rw [g1, g2, window_row _ e _ _ ((hp _).trans (hm _ hi)), window_row _ e _ _ ((hq _).trans (hm _ hi')), hP'.unique hP, hb]
    exact scatter_row hR hP (by exact_mod_cast hn) _ _ _ _ _ _ _ _ e hi' _ _ r k
  · have hz : Nat.count S 1024 = 0 := by
      by_contra hne
      refine hs ((exists_serves_iff _).2 ?_)
      rw [hcnt, show (BitVec.ofNat 32 (Nat.count S 1024)).toInt = Nat.count S 1024 from toInt_ofNat (by omega)]
      omega
    rw [bodyStep_out_keep t' _ _ _ (.inr fun B hB => hs ⟨B, hB⟩), if_neg (by omega), hb, if_neg (fun hS => by have := rank_lt (r := r) hS; omega), mul_zero, add_zero]

end Cert.KernelIdeal.Moe

end
-- ==== Proof.Routed.lean ====
/- The experts' call's blocks at each point, from the launch's arguments. -/
module

public import proofs.«01_k».proof.Proof.Tiles
public import proofs.«01_k».proof.Proof.Experts

@[expose] public section

set_option maxRecDepth 16384
noncomputable section

namespace Cert.KernelIdeal.Moe

open Cert.KernelIdeal Cert.KernelIdeal.Gen Cert.KernelIdeal.Route
open Idealize.ShloMosaic Idealize.ShloMosaic.TcCoe Idealize.ShloMosaic.Tactic
open Cert.Choice (Top)

variable (m : (ℓ : Loc nD τ sig) → Buf (Elt Ideal) ℓ) (c : Dev nD)

/-- A row's normed values and its logits. -/
def normed (R : Fin 65536) (k : Fin 1024) : EReal :=
  norm (fun k => m ((c : Thread nD τ).loc main_arg0) (ix2 R k)) (fun k => m ((c : Thread nD τ).loc main_arg1) (Idealize.ShloMosaic.ix1 k)) k
def logit (R : Fin 65536) (e : Fin 8) : EReal := ∑ k, normed m c R k * m ((c : Thread nD τ).loc main_arg2) (ix2 k e)

/-- The row `r` of the tile `t`. -/
def rowIx (t : Fin 64) (r : Fin 1024) : Fin 65536 := ⟨t.val * 1024 + r.val, by omega⟩

theorem g_blk (t : Fin cfg0.N) (k : Fin 1024) : gB m c t (ix2 0 k) = m ((c : Thread nD τ).loc main_arg1) (Idealize.ShloMosaic.ix1 k) := by
  blk_simp [gB, Own.K0.iblk]
  refine Eq.trans (congrArg _ ?_) (((gain_row (V2 m c) k).trans (congrFun ((V2_of m c main_arg1 (by decide)).trans (V1_of m c main_arg1 (by decide))) _)))
  funext a
  refine Fin.ext ?_
  fin_cases a
  · blk_simp [(idx1 t).1]
    all_goals rfl
  · blk_simp [(idx1 t).2]
    all_goals rfl

theorem r_blk (t : Fin cfg0.N) (k : Fin 1024) (e : Fin 8) : rB m c t (ix2 k (lane e)) = m ((c : Thread nD τ).loc main_arg2) (ix2 k e) := by
  blk_simp [rB, Own.K0.iblk]
  refine Eq.trans (congrArg _ ?_) ((congrFun (V3_of m c main_v0 (by decide)) _).trans (((router_pad (V1 m c) k e).trans (congrFun (V1_of m c main_arg2 (by decide)) _))))
  funext a
  refine Fin.ext ?_
  fin_cases a
  · blk_simp [(idx2 t).1]
    all_goals rfl
  · blk_simp [(idx2 t).2]
    all_goals rfl

theorem norm_blk (t : Fin 64) (r k : Fin 1024) : norm (fun k => xB m c t (ix2 r k)) (fun k => gB m c t (ix2 0 k)) k = normed m c (rowIx t r) k := by
  unfold normed
  congr 1
  · funext k; exact x_blk m c t r k
  · funext k; exact g_blk m c t k

variable {I J : ℕ → Fin 8} (hb : ∀ R e, logit m c R e ≠ ⊥) (hT : ∀ R : Fin 65536, Top (logit m c R) (I R.val) (J R.val))

include hb hT in
theorem tile_rows (t : Fin 64) : Rows (xB m c t) (gB m c t) (rB m c t) (fun r => logit m c (rowIx t r)) (fun r => I (t.val * 1024 + r)) (fun r => J (t.val * 1024 + r)) :=
  fun r => ⟨fun l => by
    rw [pay3_at]
    refine congrFun (congrArg lanes (funext fun e => ?_)) l
    refine Finset.sum_congr rfl fun k _ => ?_
    exact congr (congrArg _ (norm_blk m c t r k)) (r_blk m c t k e), hb (rowIx t r), hT (rowIx t r)⟩

/-! ## The blocks of the experts' call -/

theorem small {k : ℕ} (h : k < 1024) : (BitVec.ofNat 32 k).toNat = k := by rw [BitVec.toNat_ofNat, Nat.mod_eq_of_lt (by omega)]

theorem c0_lt (i : grid1.Coords) : (i 0).val < 64 := (i 0).isLt
theorem c1_lt (i : grid1.Coords) : (i 1).val < 8 := (i 1).isLt
theorem c2_lt (i : grid1.Coords) : (i 2).val < 2 := (i 2).isLt

theorem row_index (i : grid1.Coords) : (![(BitVec.ofNat 32 (i 0).val).toNat, 0] : Fin 2 → ℕ) = ![(i 0).val, 0] := by
  rw [small (by have := c0_lt i; omega)]
theorem tile_index (i : grid1.Coords) : (![(BitVec.ofNat 32 (i 0).val).toNat, 0, 0] : Fin 3 → ℕ) = ![(i 0).val, 0, 0] := by
  rw [small (by have := c0_lt i; omega)]
theorem in_index (i : grid1.Coords) : (![(BitVec.ofNat 32 (i 1).val).toNat, 0, (BitVec.ofNat 32 (i 2).val).toNat] : Fin 3 → ℕ) = ![(i 1).val, 0, (i 2).val] := by
  rw [small (by have := c1_lt i; omega), small (by have := c2_lt i; omega)]
theorem out_index (i : grid1.Coords) : (![(BitVec.ofNat 32 (i 1).val).toNat, (BitVec.ofNat 32 (i 2).val).toNat, 0] : Fin 3 → ℕ) = ![(i 1).val, (i 2).val, 0] := by
  rw [small (by have := c1_lt i; omega), small (by have := c2_lt i; omega)]

abbrev bl (t : Fin grid1.N) : Blk Ideal := blks (adm m 1) (Ve1 m) c t

/-- A position of a block of rows, in the whole array. -/
theorem row_emb {n : ℕ} {i : Fin 64} {r : Fin 1024} {k : Fin n} {y : (⟨2, ![65536, n]⟩ : Shape).Idx} (h0 : (y 0).val = i.val * 1024 + 1 * r.val) (h1 : (y 1).val = 0 * n + 1 * k.val) : y = ix2 (rowIx i r) k := by
  funext a
  match a with
  | ⟨0, _⟩ => exact Fin.ext (h0.trans (by show _ = i.val * 1024 + r.val; omega))
  | ⟨1, _⟩ => exact Fin.ext (h1.trans (by show _ = k.val; omega))

theorem xn_of (t : Fin grid1.N) (i : Fin 64) (hi : t.val / 16 = i.val) (r k : Fin 1024) : (bl m c t).xn (ix2 r k) = normed m c (rowIx i r) k := by
  have e := congrFun ((V5_of m (outsA m) c main_v5_0 (by decide)).trans ((Own.V4_at_main_v5_0 m (outsA m) c).trans ((out_at m c 3).trans (xn_arr m c)))) (ix2 (rowIx i r) k)
  have hx : (((cfg1 (adm m 1)).win 0).blk t).view.emb (ix2 r k) = (ix2 (rowIx i r) k : S65536x1024.Idx) := by
    refine row_emb ?_ ?_
    · show (![(BitVec.ofNat 32 (grid1.coords t 0).val).toNat, 0] : Fin 2 → ℕ) 0 * 1024 + 1 * r.val = _
      rw [row_index]
      exact congrArg (· * 1024 + 1 * r.val) ((coords1 t).1.trans hi)
    · rfl
  refine (congrArg (Ve1 m c main_v5_0) hx).trans (e.trans ?_)
  obtain ⟨h1, h2⟩ := tile_row (R := rowIx i r) (t := i) (r := r) rfl
  show k0_pay2 (F := Ideal) (xB m c (tileOf (rowIx i r))) (gB m c (tileOf (rowIx i r))) (ix2 (rowOf (rowIx i r)) k) = _
  rw [h1, h2, pay2_at]
  exact norm_blk m c i r k

theorem comb_of (t : Fin grid1.N) (i : Fin 64) (hi : t.val / 16 = i.val) (r : Fin 1024) (e : Fin 8) :
    (bl m c t).comb (ix2 r (lane e)) = gates (xB m c i) (gB m c i) (rB m c i) (ix2 r (lane e)) := by
  have h := congrFun ((V5_of m (outsA m) c main_v5_1 (by decide)).trans ((Own.V4_at_main_v5_1 m (outsA m) c).trans ((out_at m c 4).trans (comb_arr m c)))) (ix2 (rowIx i r) (lane e))
  have hx : (((cfg1 (adm m 1)).win 1).blk t).view.emb (ix2 r (lane e)) = (ix2 (rowIx i r) (lane e) : S65536x128.Idx) := by
    refine row_emb ?_ ?_
    · show (![(BitVec.ofNat 32 (grid1.coords t 0).val).toNat, 0] : Fin 2 → ℕ) 0 * 1024 + 1 * r.val = _
      rw [row_index]
      exact congrArg (· * 1024 + 1 * r.val) ((coords1 t).1.trans hi)
    · rfl
  refine (congrArg (Ve1 m c main_v5_1) hx).trans (h.trans ?_)
  obtain ⟨h1, h2⟩ := tile_row (R := rowIx i r) (t := i) (r := r) rfl
  show gates (xB m c (tileOf (rowIx i r))) (gB m c (tileOf (rowIx i r))) (rB m c (tileOf (rowIx i r))) (ix2 (rowOf (rowIx i r)) (lane e)) = _
  rw [h1, h2]

theorem x_of (t : Fin grid1.N) (i : Fin 64) (hi : t.val / 16 = i.val) (r k : Fin 1024) : (bl m c t).x (ix2 r k) = m ((c : Thread nD τ).loc main_arg0) (ix2 (rowIx i r) k) := by
  have hx : (((cfg1 (adm m 1)).win 3).blk t).view.emb (ix2 r k) = (ix2 (rowIx i r) k : S65536x1024.Idx) := by
    refine row_emb ?_ ?_
    · show (![(BitVec.ofNat 32 (grid1.coords t 0).val).toNat, 0] : Fin 2 → ℕ) 0 * 1024 + 1 * r.val = _
      rw [row_index]
      exact congrArg (· * 1024 + 1 * r.val) ((coords1 t).1.trans hi)
    · rfl
  refine (congrArg (Ve1 m c main_arg0) hx).trans (congrFun ?_ _)
  exact (V5_of m (outsA m) c main_arg0 (by decide)).trans ((V4_of m (outsA m) c main_arg0 (by decide)).trans ((V3_of m c main_arg0 (by decide)).trans ((V2_of m c main_arg0 (by decide)).trans (V1_of m c main_arg0 (by decide)))))

theorem post_of (t : Fin grid1.N) (i : Fin 64) (hi : t.val / 16 = i.val) (e : Fin 8) (r : Fin 1024) :
    (bl m c t).post (ix3 0 e r) = posts (mask (xB m c i) (gB m c i) (rB m c i)) (ones (xB m c i) (gB m c i) (rB m c i)) (firstBlock (xB m c i) (gB m c i) (rB m c i)) (firstBlock' (xB m c i) (gB m c i) (rB m c i)) (ix3 0 e r) := by
  have h := congrFun ((V5_of m (outsA m) c main_v5_2 (by decide)).trans ((Own.V4_at_main_v5_2 m (outsA m) c).trans ((out_at m c 5).trans (post_arr m c)))) (ix3 i e r)
  have hx : (((cfg1 (adm m 1)).win 2).blk t).view.emb (ix3 0 e r) = (ix3 i e r : S64x8x1024.Idx) := by
    funext a
    refine Fin.ext ?_
    match a with
    | ⟨0, _⟩ =>
      show (![(BitVec.ofNat 32 (grid1.coords t 0).val).toNat, 0, 0] : Fin 3 → ℕ) 0 * 1 + 1 * 0 = i.val
      rw [tile_index]
      have := (coords1 t).1.trans hi
      show (grid1.coords t 0).val * 1 + 1 * 0 = i.val
      omega
    | ⟨1, _⟩ => show 0 * 8 + 1 * e.val = e.val; omega
    | ⟨2, _⟩ => show 0 * 1024 + 1 * r.val = r.val; omega
  exact (congrArg (Ve1 m c main_v5_2) hx).trans h

/-- A hidden column of the tile `h`. -/
def colIx (h : Fin 2) (f : Fin 1792) : Fin 3584 := ⟨h.val * 1792 + f.val, by omega⟩

theorem in_emb {e : Fin 8} {h : Fin 2} {k : Fin 1024} {f : Fin 1792} {t : Fin grid1.N} (he : t.val % 16 / 2 = e.val) (hh : t.val % 2 = h.val) {y : S8x1024x3584.Idx}
    (h0 : (y 0).val = (![(BitVec.ofNat 32 (grid1.coords t 1).val).toNat, 0, (BitVec.ofNat 32 (grid1.coords t 2).val).toNat] : Fin 3 → ℕ) 0 * 1 + 1 * 0)
    (h1 : (y 1).val = 0 * 1024 + 1 * k.val)
    (h2 : (y 2).val = (![(BitVec.ofNat 32 (grid1.coords t 1).val).toNat, 0, (BitVec.ofNat 32 (grid1.coords t 2).val).toNat] : Fin 3 → ℕ) 2 * 1792 + 1 * f.val) : y = ix3 e k (colIx h f) := by
  obtain ⟨-, c1, c2⟩ := coords1 t
  rw [in_index] at h0 h2
  funext a
  match a with
  | ⟨0, _⟩ => exact Fin.ext (h0.trans (by show (grid1.coords t 1).val * 1 + 1 * 0 = e.val; omega))
  | ⟨1, _⟩ => exact Fin.ext (h1.trans (by show _ = k.val; omega))
  | ⟨2, _⟩ => exact Fin.ext (h2.trans (by show (grid1.coords t 2).val * 1792 + 1 * f.val = h.val * 1792 + f.val; rw [c2, hh]; omega))

theorem w1_of (t : Fin grid1.N) (e : Fin 8) (h : Fin 2) (he : t.val % 16 / 2 = e.val) (hh : t.val % 2 = h.val) (k : Fin 1024) (f : Fin 1792) :
    (bl m c t).w1 (ix3 0 k f) = m ((c : Thread nD τ).loc main_arg3) (ix3 e k (colIx h f)) := by
  have hx : (((cfg1 (adm m 1)).win 4).blk t).view.emb (ix3 0 k f) = (ix3 e k (colIx h f) : S8x1024x3584.Idx) := in_emb he hh rfl rfl rfl
  refine (congrArg (Ve1 m c main_v1) hx).trans (congrFun ?_ _)
  exact (V5_of m (outsA m) c main_v1 (by decide)).trans ((V4_of m (outsA m) c main_v1 (by decide)).trans ((w1_same (V2 m c)).trans ((V2_of m c main_arg3 (by decide)).trans (V1_of m c main_arg3 (by decide)))))

theorem w3_of (t : Fin grid1.N) (e : Fin 8) (h : Fin 2) (he : t.val % 16 / 2 = e.val) (hh : t.val % 2 = h.val) (k : Fin 1024) (f : Fin 1792) :
    (bl m c t).w3 (ix3 0 k f) = m ((c : Thread nD τ).loc main_arg4) (ix3 e k (colIx h f)) := by
  have hx : (((cfg1 (adm m 1)).win 5).blk t).view.emb (ix3 0 k f) = (ix3 e k (colIx h f) : S8x1024x3584.Idx) := in_emb he hh rfl rfl rfl
  refine (congrArg (Ve1 m c main_v2) hx).trans (congrFun ?_ _)
  exact (V5_of m (outsA m) c main_v2 (by decide)).trans ((V4_of m (outsA m) c main_v2 (by decide)).trans ((w3_same (V2 m c)).trans ((V2_of m c main_arg4 (by decide)).trans (V1_of m c main_arg4 (by decide)))))

theorem w2_of (t : Fin grid1.N) (e : Fin 8) (h : Fin 2) (he : t.val % 16 / 2 = e.val) (hh : t.val % 2 = h.val) (f : Fin 1792) (k : Fin 1024) :
    (bl m c t).w2 (ix3 0 f k) = m ((c : Thread nD τ).loc main_arg5) (ix3 e (colIx h f) k) := by
  obtain ⟨-, c1, c2⟩ := coords1 t
  have hx : (((cfg1 (adm m 1)).win 6).blk t).view.emb (ix3 0 f k) = (ix3 e (colIx h f) k : S8x3584x1024.Idx) := by
    funext a
    refine Fin.ext ?_
    match a with
    | ⟨0, _⟩ =>
      show (![(BitVec.ofNat 32 (grid1.coords t 1).val).toNat, (BitVec.ofNat 32 (grid1.coords t 2).val).toNat, 0] : Fin 3 → ℕ) 0 * 1 + 1 * 0 = e.val
      rw [out_index]
      show (grid1.coords t 1).val * 1 + 1 * 0 = e.val
      omega
    | ⟨1, _⟩ =>
      show (![(BitVec.ofNat 32 (grid1.coords t 1).val).toNat, (BitVec.ofNat 32 (grid1.coords t 2).val).toNat, 0] : Fin 3 → ℕ) 1 * 1792 + 1 * f.val = h.val * 1792 + f.val
      rw [out_index]
      show (grid1.coords t 2).val * 1792 + 1 * f.val = h.val * 1792 + f.val
      rw [c2, hh]; omega
    | ⟨2, _⟩ => show 0 * 1024 + 1 * k.val = k.val; omega
  refine (congrArg (Ve1 m c main_v3) hx).trans (congrFun ?_ _)
  exact (V5_of m (outsA m) c main_v3 (by decide)).trans ((V4_of m (outsA m) c main_v3 (by decide)).trans ((w2_same (V2 m c)).trans ((V2_of m c main_arg5 (by decide)).trans (V1_of m c main_arg5 (by decide)))))

theorem cnt_of (t : Fin grid1.N) (i : Fin 64) (e : Fin 8) (hi : t.val / 16 = i.val) (he : t.val % 16 / 2 = e.val) :
    cnt (adm m 1) t.val = Ideal.fptosi 32 (k0_pay37 (F := Ideal) (ones (xB m c i) (gB m c i) (rB m c i)) (k0_pay26 (ones (xB m c i) (gB m c i) (rB m c i)) k0_pay13 (firstBlock (xB m c i) (gB m c i) (rB m c i))) (k0_pay29 (ones (xB m c i) (gB m c i) (rB m c i))) (ix3 0 0 (lane e))) := by
  obtain rfl : (0 : Dev nD) = c := Subsingleton.elim (α := Fin 1) _ _
  obtain ⟨c0, c1, -⟩ := coords1 t
  rw [cnt_at]
  have hx : (fun a => ⟨k1_off1 (grid1.coords t) a, count_lt (grid1.coords t) a⟩ : S512.Idx) = Idealize.ShloMosaic.ix1 ⟨8 * i.val + e.val, by omega⟩ := by
    funext a
    refine Fin.ext ?_
    match a with
    | ⟨0, _⟩ =>
      show k1_off1 (grid1.coords t) 0 = 8 * i.val + e.val
      rw [k1_off1_eq]
      show 8 * (grid1.coords t 0).val + (grid1.coords t 1).val = _
      omega
  have h := congrFun ((Own.V4_at_main_v5_3 m (outsA m) 0).trans ((out_at m 0 6).trans (cnt_arr m 0))) (ix3 i 0 (lane e))
  exact (congrArg (V5 m (outsA m) 0 (Proc.devRef .tc main_v9)) hx).trans ((table_at (V4 m (outsA m) 0) i e).trans (congrArg (Ideal.fptosi 32) h))

end Cert.KernelIdeal.Moe

end
-- ==== Proof.Rows.lean ====
/- The result's array, row by row: the residual and the shares of the eight experts. -/
module

public import proofs.«01_k».proof.Proof.Routed

@[expose] public section

set_option maxRecDepth 16384
noncomputable section

namespace Cert.KernelIdeal.Moe

open Cert.KernelIdeal Cert.KernelIdeal.Gen Cert.KernelIdeal.Route
open Idealize.ShloMosaic Idealize.ShloMosaic.TcCoe Idealize.ShloMosaic.Tactic
open Cert.Choice (Top)

variable (m : (ℓ : Loc nD τ sig) → Buf (Elt Ideal) ℓ) (c : Dev nD)

/-- A residual. -/
def resid (R : Fin 65536) (k : Fin 1024) : EReal := m ((c : Thread nD τ).loc main_arg0) (ix2 R k)

theorem sum_halves (f : Fin 3584 → EReal) : ∑ i, f i = ∑ i : Fin 1792, f (colIx 0 i) + ∑ i : Fin 1792, f (colIx 1 i) := by
  have h := Fin.sum_univ_add (M := EReal) (a := 1792) (b := 1792) f
  refine h.trans (congr (congrArg _ (Finset.sum_congr rfl fun i _ => congrArg f (Fin.ext ?_))) (Finset.sum_congr rfl fun i _ => congrArg f (Fin.ext ?_)))
  · show i.val = 0 * 1792 + i.val; omega
  · show 1792 + i.val = 1 * 1792 + i.val; omega

/-- The expert `e` at a row `v`. -/
def expert (e : Fin 8) (v : Fin 1024 → EReal) (k : Fin 1024) : EReal :=
  ∑ f : Fin 3584, hid v (fun k => m ((c : Thread nD τ).loc main_arg3) (ix3 e k f)) (fun k => m ((c : Thread nD τ).loc main_arg4) (ix3 e k f)) * m ((c : Thread nD τ).loc main_arg5) (ix3 e f k)

theorem halves (t t' : Fin grid1.N) (e : Fin 8) (he : t.val % 16 / 2 = e.val) (he' : t'.val % 16 / 2 = e.val) (h : t.val % 2 = 0) (h' : t'.val % 2 = 1) (v : Fin 1024 → EReal) (k : Fin 1024) :
    half v (bl m c t).w1 (bl m c t).w3 (bl m c t).w2 k + half v (bl m c t').w1 (bl m c t').w3 (bl m c t').w2 k = expert m c e v k := by
  unfold expert half
  rw [sum_halves]
  simp only [w1_of m c t e 0 he h, w3_of m c t e 0 he h, w2_of m c t e 0 he h, w1_of m c t' e 1 he' h', w3_of m c t' e 1 he' h', w2_of m c t' e 1 he' h']

theorem gate_zero (v : Fin 8 → EReal) (i j e : Fin 8) (h : ¬ (e = i ∨ e = j)) : gate v i j e = 0 := by
  obtain ⟨h1, h2⟩ := not_or.1 h
  unfold gate
  rw [if_neg h1, if_neg h2, add_zero]

variable {I J : ℕ → Fin 8} (hb : ∀ R e, logit m c R e ≠ ⊥) (hT : ∀ R : Fin 65536, Top (logit m c R) (I R.val) (J R.val))

/-- What the expert of number `e` adds to a row. -/
def share (I J : ℕ → Fin 8) (R : Fin 65536) (k : Fin 1024) (e : ℕ) : EReal :=
  if h : e < 8 then gate (logit m c R) (I R.val) (J R.val) ⟨e, h⟩ * expert m c ⟨e, h⟩ (normed m c R) k else 0

include hb hT in
theorem pair_row (t : Fin grid1.N) (i : Fin 64) (e : Fin 8) (ht : t.val = i.val * 16 + 2 * e.val) (r k : Fin 1024) :
    (tr (adm m 1) (Ve1 m) c (t.val + 2)).out (ix2 r k) = before (adm m 1) (Ve1 m) c t (ix2 r k) + share m c I J (rowIx i r) k e.val := by
  have hN : grid1.N = 1024 := N_1
  have hi := i.isLt
  have he := e.isLt
  have hrows := tile_rows m c hb hT i
  have ht' : t.val + 1 < grid1.N := by omega
  have hr (t₁ : Fin grid1.N) (h : t₁.val / 16 = i.val) : Ranks (Chose (fun r => I (i.val * 1024 + r)) (fun r => J (i.val * 1024 + r)) e) (row (bl m c t₁).post e) :=
    fun r => (post_of m c t₁ i h e r).trans (tile_posts hrows e r)
  rw [pair (adm m 1) (Ve1 m) c t ⟨t.val + 1, ht'⟩ rfl (by omega) e (by omega) (hr t (by omega)) (hr ⟨t.val + 1, ht'⟩ (by show (t.val + 1) / 16 = i.val; omega))
    ((cnt_of m c t i e (by omega) (by omega)).trans ((congrArg (Ideal.fptosi 32) (tile_counts hrows e)).trans (Choice.fptosi_natCast _ (by have := count_le (Chose (fun r => I (i.val * 1024 + r)) (fun r => J (i.val * 1024 + r)) e) 1024; omega)))) r k]
  congr 1
  rw [halves m c t ⟨t.val + 1, ht'⟩ e (by omega) (by show (t.val + 1) % 16 / 2 = e.val; omega) (by omega) (by show (t.val + 1) % 2 = 1; omega)]
  rw [show (fun k => (bl m c t).xn (ix2 r k)) = normed m c (rowIx i r) from funext fun k => xn_of m c t i (by omega) r k]
  rw [comb_of m c ⟨t.val + 1, ht'⟩ i (by show (t.val + 1) / 16 = i.val; omega) r e, gates_at (hrows r) e]
  unfold share
  rw [dif_pos he]
  by_cases hc : Chose (fun r => I (i.val * 1024 + r)) (fun r => J (i.val * 1024 + r)) e r.val
  · rw [if_pos hc]; rfl
  · rw [if_neg hc, mul_zero]
    have h0 : gate (logit m c (rowIx i r)) (I (rowIx i r).val) (J (rowIx i r).val) ⟨e.val, he⟩ = 0 := gate_zero _ _ _ _ hc
    rw [h0, zero_mul]

include hb hT in
theorem after_pairs (i : Fin 64) (r k : Fin 1024) : ∀ n : ℕ, n < 8 →
    (tr (adm m 1) (Ve1 m) c (i.val * 16 + 2 * n + 2)).out (ix2 r k)
      = resid m c (rowIx i r) k + ∑ e ∈ Finset.range (n + 1), share m c I J (rowIx i r) k e := by
  have hN : grid1.N = 1024 := N_1
  have hi := i.isLt
  intro n
  induction n with
  | zero =>
    intro h
    have ht : i.val * 16 + 2 * 0 < grid1.N := by omega
    refine (pair_row m c hb hT ⟨i.val * 16 + 2 * 0, ht⟩ i 0 rfl r k).trans ?_
    unfold before
    rw [if_pos (by show (i.val * 16 + 2 * 0) % 16 = 0; omega), x_of m c ⟨i.val * 16 + 2 * 0, ht⟩ i (by show (i.val * 16 + 2 * 0) / 16 = i.val; omega)]
    rw [Finset.sum_range_one]
    rfl
  | succ n ih =>
    intro h
    have ht : i.val * 16 + 2 * (n + 1) < grid1.N := by omega
    refine (pair_row m c hb hT ⟨i.val * 16 + 2 * (n + 1), ht⟩ i ⟨n + 1, h⟩ rfl r k).trans ?_
    unfold before
    rw [if_neg (by show ¬ (i.val * 16 + 2 * (n + 1)) % 16 = 0; omega)]
    rw [show (⟨i.val * 16 + 2 * (n + 1), ht⟩ : Fin grid1.N).val = i.val * 16 + 2 * n + 2 by show i.val * 16 + 2 * (n + 1) = _; omega, ih (by omega), Finset.sum_range_succ _ (n + 1), add_assoc]

theorem out_emb (t : Fin grid1.N) (i : Fin 64) (hi : t.val / 16 = i.val) (y : S1024x1024.Idx) :
    (((cfg1 (adm m 1)).win 7).blk t).view.emb y = (ix2 (rowIx i (y 0)) (y 1) : S65536x1024.Idx) := by
  refine row_emb ?_ ?_
  · show (![(BitVec.ofNat 32 (grid1.coords t 0).val).toNat, 0] : Fin 2 → ℕ) 0 * 1024 + 1 * (y 0).val = _
    rw [row_index]
    exact congrArg (· * 1024 + 1 * (y 0).val) ((coords1 t).1.trans hi)
  · rfl

include hb hT in
theorem result_row (R : Fin 65536) (k : Fin 1024) :
    result m c (ix2 R k) = resid m c R k + ∑ e : Fin 8, gate (logit m c R) (I R.val) (J R.val) e * expert m c e (normed m c R) k := by
  have hN : grid1.N = 1024 := N_1
  have key : result m c = fun y : S65536x1024.Idx => resid m c (y 0) (y 1) + ∑ e : Fin 8, gate (logit m c (y 0)) (I (y 0).val) (J (y 0).val) e * expert m c e (normed m c (y 0)) (y 1) := by
    refine (dat1 m c).arrAt_eq_of_emb 7 _ (fun t hf (y : S1024x1024.Idx) => ?_) ?_
    · have h15 : t.val % 16 = 15 := of_decide_eq_true ((flush7 (adm m 1) t).symm.trans hf)
      have hi : t.val / 16 < 64 := by have := t.isLt; have : t.val < 1024 := by rw [← hN]; exact t.isLt
                                      omega
      have hx := out_emb m t ⟨t.val / 16, hi⟩ rfl y
      rw [hx]
      have h := after_pairs m c hb hT ⟨t.val / 16, hi⟩ (y 0) (y 1) 7 (by omega)
      show (tr (adm m 1) (Ve1 m) c (t.val + 1)).out y = resid m c (rowIx ⟨t.val / 16, hi⟩ (y 0)) (y 1) + _
      rw [show t.val + 1 = (⟨t.val / 16, hi⟩ : Fin 64).val * 16 + 2 * 7 + 2 by show _ = t.val / 16 * 16 + 2 * 7 + 2; omega]
      refine Eq.trans (congrArg _ (eq_ix2 rfl)) (h.trans ?_)
      rw [Finset.sum_range]
      refine congrArg _ (Finset.sum_congr rfl fun e _ => ?_)
      unfold share
      rw [dif_pos e.isLt]
      rfl
    · intro (y : S65536x1024.Idx)
      have hy : (y 0).val < 65536 := (y 0).isLt
      have ht : (y 0).val / 1024 * 16 + 15 < grid1.N := by omega
      refine ⟨⟨(y 0).val / 1024 * 16 + 15, ht⟩, (flush7 (adm m 1) _).trans (decide_eq_true (by show ((y 0).val / 1024 * 16 + 15) % 16 = 15; omega)), ?_⟩
      have hx := out_emb m ⟨(y 0).val / 1024 * 16 + 15, ht⟩ ⟨(y 0).val / 1024, by omega⟩ (by show ((y 0).val / 1024 * 16 + 15) / 16 = (y 0).val / 1024; omega) (ix2 ⟨(y 0).val % 1024, by omega⟩ (y 1))
      have hy : (ix2 (rowIx ⟨(y 0).val / 1024, by omega⟩ ⟨(y 0).val % 1024, by omega⟩) (y 1) : S65536x1024.Idx) = y := by
        refine Eq.trans ?_ (eq_ix2 (y := y) rfl).symm
        refine congrArg (fun a : Fin 65536 => (ix2 a (y 1) : S65536x1024.Idx)) (Fin.ext ?_)
        show (y 0).val / 1024 * 1024 + (y 0).val % 1024 = (y 0).val
        omega
      exact Eq.mp (congrArg (· ∈ View.set _) (hx.trans hy)) (View.emb_mem_set _ _)
  exact congrFun key (ix2 R k)

end Cert.KernelIdeal.Moe

end
-- ==== Proof.Reference.lean ====
/- The reference, element by element. -/
module

public import proofs.«01_k».proof.Proof.Gen.ReferenceIdeal.Run
public import proofs.«01_k».proof.Proof.Routing
public import proofs.«01_k».proof.Proof.Points
public import Idealize.ShloMosaic.Lib.Pointwise

@[expose] public section

set_option maxRecDepth 16384
noncomputable section

namespace Cert.ReferenceIdeal.Value

open Cert.ReferenceIdeal Cert.ReferenceIdeal.Gen
open Idealize.ShloMosaic Idealize.ShloMosaic.TcCoe
open Cert.Choice (Top)
open Cert.KernelIdeal.Route (norm gate)
open Cert.KernelIdeal.Moe (hid)

variable (V : Valuation τ sig (Elt Ideal))

theorem normed_at (R : Fin 65536) (k : Fin 1024) : res_main_v12 V (ix2 R k) = norm (fun k => V (Proc.devRef .tc main_arg0) (ix2 R k)) (fun k => V (Proc.devRef .tc main_arg1) (Idealize.ShloMosaic.ix1 k)) k := by
  unfold res_main_v12
  pointwise
  rfl

/-- The reference's logits. -/
def lg (R : Fin 65536) (e : Fin 8) : EReal := res_main_v13 V (ix2 R e)

theorem logit_at (R : Fin 65536) (e : Fin 8) : lg V R e = ∑ k, norm (fun k => V (Proc.devRef .tc main_arg0) (ix2 R k)) (fun k => V (Proc.devRef .tc main_arg1) (Idealize.ShloMosaic.ix1 k)) k * V (Proc.devRef .tc main_arg2) (ix2 k e) := by
  unfold lg res_main_v13
  pointwise
  exact Finset.sum_congr rfl fun k _ => congrArg (· * V (Proc.devRef .tc main_arg2) (ix2 k e)) (normed_at V R k)

theorem expert_at (A : FVec Ideal S65536x1024 .f32) (W1 W3 : FVec Ideal S8x1024x3584 .f32) (W2 : FVec Ideal S8x3584x1024 .f32) (e : Fin 8)
    (h1 : S8x1024x3584.Slices ![e.val, 0, 0] S1x1024x3584) (h2 : S8x3584x1024.Slices ![e.val, 0, 0] S1x3584x1024) (R : Fin 65536) (k : Fin 1024) :
    Host.dotGeneral (F := Ideal) dot_S65536x3584_S3584x1024_S65536x1024_1_0_0_1_n_n none (mulf (mulf (Host.dotGeneral dot_S65536x1024_S1024x3584_S65536x3584_1_0_0_1_n_n none A (shapeCast S1024x3584 (extractStridedSlice S1x1024x3584 ![e.val, 0, 0] W1 h1) shapeCasts_S1x1024x3584_S1024x3584 : FVec Ideal S1024x3584 .f32))
        (Host.divf (broadcastInDim S65536x3584 ![] bcast_S_S65536x3584 (constant S_ .f32 0x3F800000#32)) (addf (broadcastInDim S65536x3584 ![] bcast_S_S65536x3584 (constant S_ .f32 0x3F800000#32)) (Host.exp (Host.negf (Host.dotGeneral dot_S65536x1024_S1024x3584_S65536x3584_1_0_0_1_n_n none A (shapeCast S1024x3584 (extractStridedSlice S1x1024x3584 ![e.val, 0, 0] W1 h1) shapeCasts_S1x1024x3584_S1024x3584 : FVec Ideal S1024x3584 .f32)))))))
        (Host.dotGeneral dot_S65536x1024_S1024x3584_S65536x3584_1_0_0_1_n_n none A (shapeCast S1024x3584 (extractStridedSlice S1x1024x3584 ![e.val, 0, 0] W3 h1) shapeCasts_S1x1024x3584_S1024x3584 : FVec Ideal S1024x3584 .f32)))
      (shapeCast S3584x1024 (extractStridedSlice S1x3584x1024 ![e.val, 0, 0] W2 h2) shapeCasts_S1x3584x1024_S3584x1024 : FVec Ideal S3584x1024 .f32) (ix2 R k)
      = ∑ f : Fin 3584, hid (fun k => A (ix2 R k)) (fun k => W1 (ix3 e k f)) (fun k => W3 (ix3 e k f)) * W2 (ix3 e f k) := by
  pointwise
  rfl

theorem along_row (R : Fin 65536) (q k : Fin 8) : Shape.Idx.along (s := S65536x8) (ix2 R q) 1 k = ix2 R k := by
  funext a
  match a with
  | ⟨0, _⟩ => rfl
  | ⟨1, _⟩ => rfl

theorem gt_eq (a b : EReal) : ((FloatOps.cmpfTotal (F := Ideal) (φ := .f32) .gt a b : BitVec 1) == 1#1) = decide (b < a) := by
  show (Ideal.cmp .ogt a b == 1#1) = _
  unfold Ideal.cmp
  by_cases h : b < a <;> simp [h]

theorem topK_at (X : FVec Ideal S65536x8 .f32) (R : Fin 65536) (q : Fin 2) {i j : Fin 8} (h : Top (fun e => X (ix2 R e)) i j) :
    (Host.topK S65536x2 1 (FloatOps.cmpfTotal (F := Ideal) (φ := .f32) .gt) X sliceFits_S65536x8_S65536x2).1 (ix2 R q) = X (ix2 R (![i, j] q))
      ∧ (Host.topK S65536x2 1 (FloatOps.cmpfTotal (F := Ideal) (φ := .f32) .gt) X sliceFits_S65536x8_S65536x2).2 (ix2 R q) = BitVec.ofNat 32 (![i, j] q).val := by
  have hs : sortedFrom (fun k k' : Fin 8 => (FloatOps.cmpfTotal (F := Ideal) (φ := .f32) .gt (X (Shape.Idx.along (s := S65536x8) (ix2 R (q.castLE (by decide))) 1 k)) (X (Shape.Idx.along (s := S65536x8) (ix2 R (q.castLE (by decide))) 1 k')) : BitVec 1) == 1#1) (q.castLE (by decide)) = ![i, j] q := by
    simp only [along_row, gt_eq]
    exact Cert.Choice.sortedFrom_top _ i j h q
  constructor
  · unfold Host.topK Host.sort2
    pointwise
    refine (congrArg (fun k : Fin 8 => X (Shape.Idx.along (s := S65536x8) (ix2 R (q.castLE (by decide))) 1 k)) hs).trans ?_
    show X (Shape.Idx.along (s := S65536x8) (ix2 R (q.castLE (by decide))) 1 (![i, j] q)) = _
    rw [along_row]
  · unfold Host.topK Host.sort2
    pointwise
    refine (congrArg (fun k : Fin 8 => BitVec.ofNat 32 (Shape.Idx.along (s := S65536x8) (ix2 R (q.castLE (by decide))) 1 k 1).val) hs).trans ?_
    show BitVec.ofNat 32 (Shape.Idx.along (s := S65536x8) (ix2 R (q.castLE (by decide))) 1 (![i, j] q) 1).val = _
    rw [along_row]
    rfl

theorem fold_row (X : FVec Ideal S65536x2 .f32) (R : Fin 65536) (h : X (ix2 R 1) ≤ X (ix2 R 0)) :
    Finset.fold max (⊥ : EReal) X (Finset.univ.filter fun i => reducesTo_S65536x2_S65536_d1.drop i = Idealize.ShloMosaic.ix1 R) = X (ix2 R 0) := by
  refine le_antisymm ((Finset.fold_max_le _).2 ⟨bot_le, fun y hy => ?_⟩) ((Finset.le_fold_max _).2 (Or.inr ⟨ix2 R 0, ?_, le_rfl⟩))
  · have hR : y 0 = R := congrFun (Finset.mem_filter.1 hy).2 0
    have e : y = ix2 R (y 1) := by
      funext a
      match a with
      | ⟨0, _⟩ => exact hR
      | ⟨1, _⟩ => rfl
    rw [e]
    generalize (y 1 : Fin 2) = q
    fin_cases q
    · exact le_rfl
    · exact h
  · refine Finset.mem_filter.2 ⟨Finset.mem_univ _, ?_⟩
    funext a
    match a with
    | ⟨0, _⟩ => rfl

variable {V} in
theorem exp_at (R : Fin 65536) (q : Fin 2) {i j : Fin 8} (h : Top (lg V R) i j) : res_main_v20 V (ix2 R q) = Ideal.exp (lg V R (![i, j] q) - lg V R i) := by
  have hv (q : Fin 2) : res_main_values V (ix2 R q) = lg V R (![i, j] q) := (topK_at (res_main_v13 V) R q h).1
  unfold res_main_v20
  pointwise
  rw [Cert.KernelIdeal.Route.ofBits_bot, max_eq_right bot_le, hv]
  refine (congrArg (fun y => Ideal.exp (lg V R (![i, j] q) - y)) (fold_row (res_main_values V) R (by rw [hv, hv]; exact h.le_i j))).trans ?_
  rw [hv]
  rfl

theorem uitofp_eq (a b : BitVec 32) : (FloatOps.uitofp (F := Ideal) .f32 (IntOp.cmpi .eq a b) : EReal) = if a = b then 1 else 0 := by
  by_cases h : a = b
  · rw [if_pos h]; subst h
    have : IntOp.cmpi .eq a a = 1#1 := by simp [IntOp.cmpi]
    rw [this]
    show (((1#1 : BitVec 1).toNat : ℝ) : EReal) = 1
    norm_num
  · rw [if_neg h]
    have e : (a == b) = false := by simpa using h
    have : IntOp.cmpi .eq a b = 0#1 := by simp [IntOp.cmpi, e]
    rw [this]
    show (((0#1 : BitVec 1).toNat : ℝ) : EReal) = 0
    norm_num

variable {V} in
theorem combine_at (R : Fin 65536) (e : Fin 8) {i j : Fin 8} (h : Top (lg V R) i j) (hr : lg V R i - lg V R i = 0) :
    res_main_v29 V (ix2 R e) = gate (lg V R) i j e := by
  unfold res_main_v29
  pointwise
  rw [Fin.sum_univ_two, Fin.sum_univ_two, exp_at R 0 h, exp_at R 1 h, uitofp_eq, uitofp_eq]
  rw [show (Host.topK S65536x2 1 (FloatOps.cmpfTotal .gt) (res_main_v13 V) sliceFits_S65536x8_S65536x2).2 (ix2 R 0) = _ from (topK_at (res_main_v13 V) R 0 h).2, show (Host.topK S65536x2 1 (FloatOps.cmpfTotal .gt) (res_main_v13 V) sliceFits_S65536x8_S65536x2).2 (ix2 R 1) = _ from (topK_at (res_main_v13 V) R 1 h).2]
  have e0 : Ideal.exp (0 : EReal) = 1 := by
    show ((Real.exp 0 : ℝ) : EReal) = 1
    norm_num
  have hn (a b : Fin 8) : (BitVec.ofNat 32 a.val = BitVec.ofNat 32 b.val) = (b = a) := by revert a b; decide
  show (if BitVec.ofNat 32 i.val = BitVec.ofNat 32 e.val then (1 : EReal) else 0) *
        Ideal.div (Ideal.exp (lg V R i - lg V R i)) (Ideal.exp (lg V R i - lg V R i) + Ideal.exp (lg V R j - lg V R i)) +
      (if BitVec.ofNat 32 j.val = BitVec.ofNat 32 e.val then (1 : EReal) else 0) *
        Ideal.div (Ideal.exp (lg V R j - lg V R i)) (Ideal.exp (lg V R i - lg V R i) + Ideal.exp (lg V R j - lg V R i)) = _
  rw [hr, e0]
  simp only [hn, ite_mul, one_mul, zero_mul]
  rfl

theorem fits1 : ∀ e : Fin 8, S8x1024x3584.Slices ![e.val, 0, 0] S1x1024x3584 := by decide
theorem fits2 : ∀ e : Fin 8, S8x3584x1024.Slices ![e.val, 0, 0] S1x3584x1024 := by decide
theorem fitsg : ∀ e : Fin 8, S65536x8.Slices ![0, e.val] S65536x1 := by decide

/-- One expert's hidden rows, before the gated unit. -/
def first (W : FVec Ideal S8x1024x3584 .f32) (e : Fin 8) : FVec Ideal S65536x3584 .f32 :=
  Host.dotGeneral (φ₁ := .f32) (φ₂ := .f32) dot_S65536x1024_S1024x3584_S65536x3584_1_0_0_1_n_n none (res_main_v12 V) (shapeCast S1024x3584 (extractStridedSlice S1x1024x3584 ![e.val, 0, 0] W (fits1 e)) shapeCasts_S1x1024x3584_S1024x3584)

/-- One expert's weighted contribution. -/
def part (e : Fin 8) : FVec Ideal S65536x1024 .f32 :=
  mulf (broadcastInDim S65536x1024 ![0, 1] bcast_S65536x1_S65536x1024_0_1 (extractStridedSlice S65536x1 ![0, e.val] (res_main_v29 V) (fitsg e)))
    (Host.dotGeneral (φ₁ := .f32) (φ₂ := .f32) dot_S65536x3584_S3584x1024_S65536x1024_1_0_0_1_n_n none
      (mulf (mulf (first V (V (Proc.devRef .tc main_arg3)) e) (Host.divf (broadcastInDim S65536x3584 ![] bcast_S_S65536x3584 (constant S_ .f32 0x3F800000#32)) (addf (broadcastInDim S65536x3584 ![] bcast_S_S65536x3584 (constant S_ .f32 0x3F800000#32)) (Host.exp (Host.negf (first V (V (Proc.devRef .tc main_arg3)) e))))))
        (first V (V (Proc.devRef .tc main_arg4)) e))
      (shapeCast S3584x1024 (extractStridedSlice S1x3584x1024 ![e.val, 0, 0] (V (Proc.devRef .tc main_arg5)) (fits2 e)) shapeCasts_S1x3584x1024_S3584x1024))

/-- One expert's value on one row. -/
def ex (R : Fin 65536) (k : Fin 1024) (e : Fin 8) : EReal :=
  ∑ f : Fin 3584, hid (norm (fun k => V (Proc.devRef .tc main_arg0) (ix2 R k)) (fun k => V (Proc.devRef .tc main_arg1) (Idealize.ShloMosaic.ix1 k))) (fun k => V (Proc.devRef .tc main_arg3) (ix3 e k f)) (fun k => V (Proc.devRef .tc main_arg4) (ix3 e k f)) * V (Proc.devRef .tc main_arg5) (ix3 e f k)

theorem scale_at (G : FVec Ideal S65536x8 .f32) (H : FVec Ideal S65536x1024 .f32) (e : Fin 8) (R : Fin 65536) (k : Fin 1024) :
    mulf (broadcastInDim S65536x1024 ![0, 1] bcast_S65536x1_S65536x1024_0_1 (extractStridedSlice S65536x1 ![0, e.val] G (fitsg e))) H (ix2 R k) = G (ix2 R e) * H (ix2 R k) := by
  pointwise

variable {V} in
theorem part_at (e : Fin 8) (R : Fin 65536) (k : Fin 1024) {i j : Fin 8} (h : Top (lg V R) i j) (hr : lg V R i - lg V R i = 0) :
    part V e (ix2 R k) = gate (lg V R) i j e * ex V R k e := by
  have hn : (fun k => res_main_v12 V (ix2 R k)) = norm (fun k => V (Proc.devRef .tc main_arg0) (ix2 R k)) (fun k => V (Proc.devRef .tc main_arg1) (Idealize.ShloMosaic.ix1 k)) := funext fun k => normed_at V R k
  refine (scale_at _ _ e R k).trans ?_
  refine (congrArg₂ (fun a b : EReal => a * b) (combine_at R e h hr) (expert_at (res_main_v12 V) _ _ _ e (fits1 e) (fits2 e) R k)).trans ?_
  rw [hn]
  rfl

/-- The reference's result. -/
def total : FVec Ideal S65536x1024 .f32 :=
  addf (V (Proc.devRef .tc main_arg0)) (addf (addf (addf (res_main_v105 V) (part V 5)) (part V 6)) (part V 7))

set_option maxHeartbeats 4000000 in
theorem first_five : res_main_v105 V = addf (addf (addf (addf (addf (broadcastInDim S65536x1024 ![] bcast_S_S65536x1024 (constant S_ .f32 0x00000000#32)) (part V 0)) (part V 1)) (part V 2)) (part V 3)) (part V 4) := by
  rfl

theorem zero_row (A P0 P1 P2 P3 P4 P5 P6 P7 : FVec Ideal S65536x1024 .f32) (R : Fin 65536) (k : Fin 1024) :
    addf A (addf (addf (addf (addf (addf (addf (addf (addf (broadcastInDim S65536x1024 ![] bcast_S_S65536x1024 (constant S_ .f32 0x00000000#32)) P0) P1) P2) P3) P4) P5) P6) P7) (ix2 R k)
      = A (ix2 R k) + (P0 (ix2 R k) + P1 (ix2 R k) + P2 (ix2 R k) + P3 (ix2 R k) + P4 (ix2 R k) + P5 (ix2 R k) + P6 (ix2 R k) + P7 (ix2 R k)) := by
  pointwise

/-- The reference's input on one row. -/
def base (R : Fin 65536) (k : Fin 1024) : EReal := V (Proc.devRef .tc main_arg0) (ix2 R k)

variable {V} in
theorem total_at (R : Fin 65536) (k : Fin 1024) {i j : Fin 8} (h : Top (lg V R) i j) (hr : lg V R i - lg V R i = 0) :
    total V (ix2 R k) = base V R k + ∑ e : Fin 8, gate (lg V R) i j e * ex V R k e := by
  unfold total
  rw [first_five, Fin.sum_univ_eight]
  refine (zero_row _ _ _ _ _ _ _ _ _ R k).trans ?_
  simp only [part_at _ R k h hr]
  rfl

end Cert.ReferenceIdeal.Value

end
-- ==== Proof.Finite.lean ====
/- What finite weights say: the logits are numbers. -/
module

public import proofs.«01_k».proof.Pre_finite_weights
public import proofs.«01_k».proof.Proof.Routing
public import Idealize.ShloMosaic.Lib.Pointwise
public import Idealize.ShloMosaic.Lib.ReduceAll

@[expose] public section

set_option maxRecDepth 16384
noncomputable section

namespace Cert.Finite

open Idealize.ShloMosaic

/-- A value that is a real number. -/
def Num (x : EReal) : Prop := ∃ r : ℝ, x = r

theorem Num.mul {x y : EReal} (hx : Num x) (hy : Num y) : Num (x * y) := by
  obtain ⟨a, rfl⟩ := hx
  obtain ⟨b, rfl⟩ := hy
  exact ⟨a * b, (EReal.coe_mul a b).symm⟩

theorem Num.sum {ι : Type} (s : Finset ι) (f : ι → EReal) (h : ∀ i, Num (f i)) : Num (∑ i ∈ s, f i) := by
  classical
  induction s using Finset.induction_on with
  | empty => exact ⟨0, by rw [Finset.sum_empty, EReal.coe_zero]⟩
  | insert a s ha ih =>
    obtain ⟨b, hb⟩ := ih
    obtain ⟨c, hc⟩ := h a
    exact ⟨c + b, by rw [Finset.sum_insert ha, hb, hc, EReal.coe_add]⟩

theorem Num.sub_self {x : EReal} (hx : Num x) : x - x = 0 := by
  obtain ⟨a, rfl⟩ := hx
  rw [← EReal.coe_sub, _root_.sub_self, EReal.coe_zero]

theorem Num.ne_bot {x : EReal} (hx : Num x) : x ≠ ⊥ := by
  obtain ⟨a, rfl⟩ := hx
  exact EReal.coe_ne_bot a

theorem num_of_ne {x : EReal} (h : x ≠ ⊥) (h' : x ≠ ⊤) : Num x := by
  induction x with
  | bot => exact absurd rfl h
  | top => exact absurd rfl h'
  | coe r => exact ⟨r, rfl⟩

theorem width : Ideal.ofBits .f32 1149239296#32 = ((1024 : ℝ) : EReal) := by
  simp [Ideal.ofBits, Ideal.ieee, -EReal.coe_mul]
  norm_num

theorem small : ∃ e : ℝ, 0 < e ∧ Ideal.ofBits .f32 897988541#32 = (e : EReal) := by
  simp only [Ideal.ofBits, Ideal.ieee]
  simp [-EReal.coe_mul]

theorem square_nonneg (x : EReal) : 0 ≤ x * x := by
  induction x with
  | bot => simp
  | top => simp
  | coe r => rw [← EReal.coe_mul]; exact_mod_cast mul_self_nonneg r

theorem normed_num {x w : Fin 1024 → EReal} (hw : ∀ k, Num (w k)) (k : Fin 1024) : Num (Cert.KernelIdeal.Route.norm x w k) := by
  obtain ⟨e, he, hs⟩ := small
  unfold Cert.KernelIdeal.Route.norm
  rw [width, hs]
  refine Num.mul ?_ (hw k)
  have h0 : (0 : EReal) ≤ ∑ q, x q * x q := Finset.sum_nonneg fun q _ => square_nonneg (x q)
  have hle : x k * x k ≤ ∑ q, x q * x q := Finset.single_le_sum (f := fun q => x q * x q) (fun q _ => square_nonneg (x q)) (Finset.mem_univ k)
  have hd (s : EReal) : Ideal.div s ((1024 : ℝ) : EReal) = s * (((1024 : ℝ)⁻¹ : ℝ) : EReal) := by
    unfold Ideal.div
    rw [if_neg (by exact_mod_cast (by norm_num : (1024 : ℝ) ≠ 0)), EReal.coe_inv]
  rw [hd]
  generalize (∑ q, x q * x q) = s at h0 hle
  induction s with
  | bot => exact absurd h0 (by simp)
  | top =>
    rw [EReal.top_mul_coe_of_pos (by norm_num), EReal.top_add_coe]
    exact ⟨0, by rw [show Ideal.rsqrt ⊤ = 0 from rfl, mul_zero, EReal.coe_zero]⟩
  | coe s =>
    have hs0 : 0 ≤ s := by exact_mod_cast h0
    refine Num.mul (num_of_ne ?_ ?_) ?_
    · intro hx; rw [hx] at hle; simp at hle
    · intro hx; rw [hx] at hle; simp at hle
    · rw [← EReal.coe_mul, ← EReal.coe_add]
      have hp : 0 < s * (1024 : ℝ)⁻¹ + e := by positivity
      refine ⟨(Real.sqrt (s * (1024 : ℝ)⁻¹ + e))⁻¹, ?_⟩
      show (if s * (1024 : ℝ)⁻¹ + e < 0 then (⊥ : EReal) else if s * (1024 : ℝ)⁻¹ + e = 0 then ⊤ else (((Real.sqrt (s * (1024 : ℝ)⁻¹ + e))⁻¹ : ℝ) : EReal)) = _
      rw [if_neg hp.le.not_gt, if_neg hp.ne']

theorem logit_num {x w : Fin 1024 → EReal} {r : Fin 1024 → EReal} (hw : ∀ k, Num (w k)) (hr : ∀ k, Num (r k)) : Num (∑ k, Cert.KernelIdeal.Route.norm x w k * r k) :=
  Num.sum _ _ fun k => (normed_num hw k).mul (hr k)

theorem num_of_abs {x : EReal} (h : Ideal.cmp .olt (max x (-x)) (Ideal.ofBits .f32 2139095040#32) = 1#1) : Num x := by
  rw [show Ideal.ofBits .f32 2139095040#32 = ⊤ from by simp [Ideal.ofBits, Ideal.ieee]] at h
  refine num_of_ne ?_ ?_
  · rintro rfl; simp [Ideal.cmp] at h
  · rintro rfl; simp [Ideal.cmp] at h

theorem facts : Cert.Pre_finite_weights.Facts := ⟨by decide, by decide, by decide, by decide, by decide⟩

section

open Cert.Pre_finite_weights

variable [Facts] {x : FVec Ideal S65536x1024 .f32} {g : FVec Ideal S1024 .f32} {r : FVec Ideal S1024x8 .f32} {w1 w3 : FVec Ideal S8x1024x3584 .f32} {w2 : FVec Ideal S8x3584x1024 .f32}

theorem weights (h : fn (F := Ideal) x g r w1 w3 w2 = fun _ => 1#1) : (∀ k, Num (g (ix1 k))) ∧ ∀ k e, Num (r (ix2 k e)) := by
  have h0 := congrFun h (Shape.Idx.first Facts.h_S_)
  unfold fn at h0
  obtain ⟨hg, hr⟩ := IntOp.andi_eq_one.1 h0
  haveI : Subsingleton S_.Idx := ⟨fun a b => funext fun d => d.elim0⟩
  exact ⟨fun k => num_of_abs (Host.reduce_andi_all _ _ _ _ _ hg (ix1 k)), fun k e => num_of_abs (Host.reduce_andi_all _ _ _ _ _ hr (ix2 k e))⟩

end

end Cert.Finite

end
-- ==== Proof.Equal.lean ====
/- The kernel's result is the reference's. -/
module

public import proofs.«01_k».proof.Proof.Rows
public import proofs.«01_k».proof.Proof.Reference
public import proofs.«01_k».proof.Proof.Finite

@[expose] public section

set_option maxRecDepth 16384
noncomputable section

namespace Cert.Equal

open Idealize.ShloMosaic Idealize.ShloMosaic.TcCoe
open Cert.KernelIdeal.Moe (logit normed resid expert result result_row)
open Cert.ReferenceIdeal.Value (lg total total_at logit_at ex base)
open Cert.Choice (Top)
open Cert.Finite (Num)

variable (m : (ℓ : Loc Cert.KernelIdeal.nD Cert.KernelIdeal.τ Cert.KernelIdeal.sig) → Buf (Elt Ideal) ℓ) (c : Dev Cert.KernelIdeal.nD)
variable (V : Valuation Cert.ReferenceIdeal.τ Cert.ReferenceIdeal.sig (Elt Ideal))

/-- The two programs hold the same arguments. -/
structure Same : Prop where
  x : (V (Proc.devRef .tc Cert.ReferenceIdeal.main_arg0) : FVec Ideal Cert.KernelIdeal.S65536x1024 .f32) = m ((c : Thread Cert.KernelIdeal.nD Cert.KernelIdeal.τ).loc Cert.KernelIdeal.main_arg0)
  gain : (V (Proc.devRef .tc Cert.ReferenceIdeal.main_arg1) : FVec Ideal Cert.KernelIdeal.S1024 .f32) = m ((c : Thread Cert.KernelIdeal.nD Cert.KernelIdeal.τ).loc Cert.KernelIdeal.main_arg1)
  router : (V (Proc.devRef .tc Cert.ReferenceIdeal.main_arg2) : FVec Ideal Cert.KernelIdeal.S1024x8 .f32) = m ((c : Thread Cert.KernelIdeal.nD Cert.KernelIdeal.τ).loc Cert.KernelIdeal.main_arg2)
  w1 : (V (Proc.devRef .tc Cert.ReferenceIdeal.main_arg3) : FVec Ideal Cert.KernelIdeal.S8x1024x3584 .f32) = m ((c : Thread Cert.KernelIdeal.nD Cert.KernelIdeal.τ).loc Cert.KernelIdeal.main_arg3)
  w3 : (V (Proc.devRef .tc Cert.ReferenceIdeal.main_arg4) : FVec Ideal Cert.KernelIdeal.S8x1024x3584 .f32) = m ((c : Thread Cert.KernelIdeal.nD Cert.KernelIdeal.τ).loc Cert.KernelIdeal.main_arg4)
  w2 : (V (Proc.devRef .tc Cert.ReferenceIdeal.main_arg5) : FVec Ideal Cert.KernelIdeal.S8x3584x1024 .f32) = m ((c : Thread Cert.KernelIdeal.nD Cert.KernelIdeal.τ).loc Cert.KernelIdeal.main_arg5)

variable {m c V}

theorem base_eq (h : Same m c V) (R : Fin 65536) (k : Fin 1024) : base V R k = resid m c R k := congrFun h.x (ix2 R k)

theorem normed_eq (h : Same m c V) (R : Fin 65536) :
    Cert.KernelIdeal.Route.norm (fun k => V (Proc.devRef .tc Cert.ReferenceIdeal.main_arg0) (ix2 R k)) (fun k => V (Proc.devRef .tc Cert.ReferenceIdeal.main_arg1) (ix1 k)) = normed m c R := by
  refine congrArg₂ Cert.KernelIdeal.Route.norm (funext fun k => congrFun h.x (ix2 R k)) (funext fun k => congrFun h.gain (ix1 k))

theorem logit_eq (h : Same m c V) (R : Fin 65536) : lg V R = logit m c R :=
  funext fun e => (logit_at V R e).trans (Finset.sum_congr rfl fun k _ => congrArg₂ (fun a b : EReal => a * b) (congrFun (normed_eq h R) k) (congrFun h.router (ix2 k e)))

theorem expert_eq (h : Same m c V) (R : Fin 65536) (k : Fin 1024) (e : Fin 8) : ex V R k e = expert m c e (normed m c R) k := by
  unfold ex expert
  rw [normed_eq h R]
  refine Finset.sum_congr rfl fun f _ => congrArg₂ (fun a b : EReal => a * b) ?_ (congrFun h.w2 (ix3 e f k))
  exact congrArg₂ (Cert.KernelIdeal.Moe.hid (normed m c R)) (funext fun k => congrFun h.w1 (ix3 e k f)) (funext fun k => congrFun h.w3 (ix3 e k f))

theorem total_eq (h : Same m c V) (hg : ∀ k, Num (m ((c : Thread Cert.KernelIdeal.nD Cert.KernelIdeal.τ).loc Cert.KernelIdeal.main_arg1) (ix1 k)))
    (hr : ∀ k e, Num (m ((c : Thread Cert.KernelIdeal.nD Cert.KernelIdeal.τ).loc Cert.KernelIdeal.main_arg2) (ix2 k e))) : total V = result m c := by
  have hn (R : Fin 65536) (e : Fin 8) : Num (logit m c R e) := Cert.Finite.logit_num hg fun k => hr k e
  choose I J hT using fun R : Fin 65536 => Cert.Choice.exists_top (logit m c R)
  obtain ⟨I', J', hT'⟩ : ∃ I' J' : ℕ → Fin 8, ∀ R : Fin 65536, Top (logit m c R) (I' R.val) (J' R.val) := by
    refine ⟨fun n => if h : n < 65536 then I ⟨n, h⟩ else 0, fun n => if h : n < 65536 then J ⟨n, h⟩ else 0, fun R => ?_⟩
    show Top _ (dite _ _ _) (dite _ _ _)
    rw [dif_pos R.isLt, dif_pos R.isLt]
    exact hT R
  have key (R : Fin 65536) (k : Fin 1024) : total V (ix2 R k) = result m c (ix2 R k) := by
    refine (total_at R k (by rw [logit_eq h]; exact hT' R) (by rw [logit_eq h]; exact (hn _ _).sub_self)).trans ?_
    refine Eq.trans ?_ (result_row m c (fun R e => (hn R e).ne_bot) hT' R k).symm
    simp only [base_eq h, logit_eq h, expert_eq h]
  funext y
  have hy : y = ix2 (y 0 : Fin 65536) (y 1 : Fin 1024) := by
    funext a
    match a with
    | ⟨0, _⟩ => rfl
    | ⟨1, _⟩ => rfl
  exact (congrArg (total V) hy).trans ((key (y 0) (y 1)).trans (congrArg (result m c) hy).symm)

end Cert.Equal

end
-- ==== Proof.FfnPrinted.lean ====
/- The dense feed-forward call as printed: its program is the idealized one over its own region settings. -/
module

public import proofs.«01_k».proof.Defs
public import proofs.«01_k».proof.Proof.Gen.Kernel2
public import proofs.«01_k».proof.Proof.Gen.Kernel2Ideal.Frame

@[expose] public section

set_option maxRecDepth 16384
set_option maxHeartbeats 4000000

noncomputable section

namespace Cert.Kernel2Ideal.Ffn

open Cert.Kernel2Ideal Cert.Kernel2Ideal.Facts₀ Cert.Kernel2Ideal.Facts
open Idealize.ShloMosaic Idealize.SL.Sem

variable {F : FTy → Type} [FloatOps F]

/-- The program over any settings. -/
def mainOf (P : Fin 1 → Pipeline.PCfg sig Λ₀ (Elt F)) : Dev nD → Prog (TpuEff nD τ sig (Elt F) (Pipeline.Sig Λ₀ (Fin 1) fun p => (P p).Adm) .tc) PUnit := fun _ => do
  hlo rfl (StableHlo.unary main_arg2 main_v0 ((truncf .bf16 · bitsLt_bf16_f32) : (⟨S1024x3584, .f32⟩ : BufTy).Contents (Elt F) → (⟨S1024x3584, .bf16⟩ : BufTy).Contents (Elt F))) (fun _ => .ret ⟨⟩)
  hlo rfl (StableHlo.unary main_arg3 main_v1 ((truncf .bf16 · bitsLt_bf16_f32) : (⟨S1024x3584, .f32⟩ : BufTy).Contents (Elt F) → (⟨S1024x3584, .bf16⟩ : BufTy).Contents (Elt F))) (fun _ => .ret ⟨⟩)
  hlo rfl (StableHlo.unary main_arg4 main_v2 ((truncf .bf16 · bitsLt_bf16_f32) : (⟨S3584x1024, .f32⟩ : BufTy).Contents (Elt F) → (⟨S3584x1024, .bf16⟩ : BufTy).Contents (Elt F))) (fun _ => .ret ⟨⟩)
  hlo rfl (StableHlo.reshape main_arg1 main_v3 (rfl : (.f32 : EltTy) = .f32) shapeCasts_S1024_S1x1024) (fun _ => .ret ⟨⟩)
  Prog.lift (.customCall (Pipeline.entry 0) ())
  pure ⟨⟩

theorem main_ideal : main (F := F) = mainOf pcfgs := (rfl)

theorem main_printed : Cert.Kernel2.main (F := F) = mainOf (F := F) Cert.Kernel2.pcfgs := (rfl)

theorem pcfgs_printed : (show Fin 1 → Pipeline.PCfg sig Λ₀ (Elt F) from Cert.Kernel2.pcfgs (F := F)) = pcfgs (F := F) := by
  funext p
  match p with
  | ⟨0, _⟩ => rfl
  | ⟨n + 1, h⟩ => exact absurd h (by omega)

set_option smartUnfolding false in
theorem defs_printed : (show Defs nD τ sig (Elt F) Λ₀ from Cert.Kernel2.defs₀ (F := F)) = defs₀ (F := F) := (rfl)

/-- What every run of the call leaves. -/
def Kept (m : (ℓ : Loc nD τ sig) → Buf (Elt F) ℓ) (s : MemSt nD τ sig (Elt F)) : Prop :=
  (∀ c : Dev nD, s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4))
  ∧ s.sem = fun _ => 0

/-- The run over any settings equal to the idealized call's. -/
theorem run_of (P : Fin 1 → Pipeline.PCfg sig Λ₀ (Elt F)) (h : P = pcfgs) (D : Defs nD τ sig (Elt F) Λ₀) (hD : D = defs₀)
    (m : (ℓ : Loc nD τ sig) → Buf (Elt F) ℓ) (ρ : Dev nD → PrngReg) :
    θ_run (Pipeline.defs P D) (onTc (τ := τ) (mainOf P)) ⟨m, fun _ => 0, ρ⟩ (fun r => Kept m r.2) := by
  subst h hD
  exact Cert.Kernel2Ideal.Gen.frame m ρ

/-- The printed call's run. -/
theorem run_printed (m : (ℓ : Loc Cert.Kernel2.nD Cert.Kernel2.τ Cert.Kernel2.sig) → Buf (Elt F) ℓ) (ρ : Dev Cert.Kernel2.nD → PrngReg) :
    θ_run (Pipeline.defs (show Fin 1 → Pipeline.PCfg sig Λ₀ (Elt F) from Cert.Kernel2.pcfgs (F := F)) (show Defs nD τ sig (Elt F) Λ₀ from Cert.Kernel2.defs₀ (F := F))) (onTc (τ := τ) (mainOf (F := F) Cert.Kernel2.pcfgs)) ⟨m, fun _ => 0, ρ⟩ (fun r => Kept m r.2) :=
  run_of _ pcfgs_printed _ defs_printed m ρ

end Cert.Kernel2Ideal.Ffn

end
-- ==== Proof.Ffn.lean ====
/- The dense feed-forward call, element by element: after each point, and at the end of the run. -/
module

public import proofs.«01_k».proof.Proof.Gen.Kernel2Ideal.Value
public import proofs.«01_k».proof.Proof.Routing
public import proofs.«01_k».proof.Proof.Points
public import Idealize.ShloMosaic.Lib.Pipeline.ValueKit
public import Idealize.ShloMosaic.Lib.Pipeline.ReadBack
public import Idealize.ShloMosaic.Lib.KernelVsHost

@[expose] public section

set_option maxRecDepth 16384
noncomputable section

namespace Cert.Kernel2Ideal.Ffn

open Cert.Kernel2Ideal Cert.Kernel2Ideal.Gen Cert.Kernel2Ideal.Value
open Idealize.ShloMosaic Idealize.ShloMosaic.TcCoe Idealize.ShloMosaic.Tactic Idealize.SL.Sem
open Cert.KernelIdeal.Route (norm)
open Cert.KernelIdeal.Moe (hid)
open Finset (range)

/-- The normed tile. -/
theorem normed_at (x : FVec Ideal S1024x1024 .f32) (g : FVec Ideal S1x1024 .f32) (r k : Fin 1024) :
    k0_pay1 (F := Ideal) x g (ix2 r k) = norm (fun k => x (ix2 r k)) (fun k => g (ix2 0 k)) k := by
  pointwise [k0_pay1]
  rfl

/-- One block of 512 hidden units, added. -/
theorem added_at (v : FVec Ideal S1024x1024 .bf16) (a b : FVec Ideal S1024x512 .bf16) (o : FVec Ideal S1024x1024 .f32) (d : FVec Ideal S512x1024 .bf16) (r k : Fin 1024) :
    k0_pay2 (F := Ideal) v a b o d (ix2 r k) = o (ix2 r k) + ∑ f : Fin 512, hid (fun k => v (ix2 r k)) (fun k => a (ix2 k f)) (fun k => b (ix2 k f)) * d (ix2 f k) := by
  pointwise [k0_pay2]
  rfl

variable (m : (ℓ : Loc nD τ sig) → Buf (Elt Ideal) ℓ) (c : Dev nD)

/-- The arguments, element by element. -/
def x (R : Fin 65536) (k : Fin 1024) : EReal := m ((c : Thread nD τ).loc main_arg0) (ix2 R k)
def g (k : Fin 1024) : EReal := m ((c : Thread nD τ).loc main_arg1) (Idealize.ShloMosaic.ix1 k)
def w1 (f : Fin 3584) (k : Fin 1024) : EReal := m ((c : Thread nD τ).loc main_arg2) (ix2 k f)
def w3 (f : Fin 3584) (k : Fin 1024) : EReal := m ((c : Thread nD τ).loc main_arg3) (ix2 k f)
def w2 (f : Fin 3584) (k : Fin 1024) : EReal := m ((c : Thread nD τ).loc main_arg4) (ix2 f k)

/-- What hidden unit `q` adds at a row and a column. -/
def unitAt (R : Fin 65536) (k : Fin 1024) (q : ℕ) : EReal :=
  if h : q < 3584 then hid (norm (x m c R) (g m c)) (w1 m c ⟨q, h⟩) (w3 m c ⟨q, h⟩) * w2 m c ⟨q, h⟩ k else 0

/-- The row of a tile's row, the hidden unit of a block's unit. -/
def rowIx (t : Fin cfg0.N) (r : Fin 1024) : Fin 65536 := ⟨t.val / 7 * 1024 + r.val, by have h : t.val < 448 := lt_of_lt_of_eq t.isLt N_0; have := r.isLt; omega⟩
def unitIx (t : Fin cfg0.N) (f : Fin 512) : Fin 3584 := ⟨t.val % 7 * 512 + f.val, by have := f.isLt; omega⟩

theorem places (t : Fin cfg0.N) : (win0_0.index t 0 = t.val / 7 ∧ win0_0.index t 1 = 0) ∧ (win0_1.index t 0 = 0 ∧ win0_1.index t 1 = 0)
    ∧ (win0_2.index t 0 = 0 ∧ win0_2.index t 1 = t.val % 7) ∧ (win0_3.index t 0 = 0 ∧ win0_3.index t 1 = t.val % 7)
    ∧ (win0_4.index t 0 = t.val % 7 ∧ win0_4.index t 1 = 0) := by revert t; decide +kernel

/-- The blocks of point `t`. -/
abbrev xB (t : Fin cfg0.N) : FVec Ideal S1024x1024 .f32 := iblk (F := Ideal) m c 0 t
abbrev gB (t : Fin cfg0.N) : FVec Ideal S1x1024 .f32 := iblk (F := Ideal) m c 1 t
abbrev w1B (t : Fin cfg0.N) : FVec Ideal S1024x512 .bf16 := iblk (F := Ideal) m c 2 t
abbrev w3B (t : Fin cfg0.N) : FVec Ideal S1024x512 .bf16 := iblk (F := Ideal) m c 3 t
abbrev w2B (t : Fin cfg0.N) : FVec Ideal S512x1024 .bf16 := iblk (F := Ideal) m c 4 t

theorem x_blk (t : Fin cfg0.N) (r k : Fin 1024) : xB m c t (ix2 r k) = x m c (rowIx t r) k := by
  blk_simp [xB, iblk]
  unfold x
  refine (congrFun (V_main_arg0 m c) _).trans (congrArg _ ?_)
  funext a
  refine Fin.ext ?_
  fin_cases a
  · blk_simp [(places t).1.1]
    rfl
  · blk_simp [(places t).1.2]
    rfl

theorem V_gain (k : Fin 1024) : V (F := Ideal) m c main_v3 (ix2 0 k) = g m c k := by
  show StableHlo.after hostOps0 _ (Proc.devRef .tc main_v3) (ix2 0 k) = _
  after_results
  show (shapeCast S1x1024 (m ((c : Thread nD τ).loc main_arg1) : Vec Ideal S1024 .f32) shapeCasts_S1024_S1x1024 : Vec Ideal S1x1024 .f32) (ix2 0 k) = _
  pointwise
  rfl

theorem V_w1 : V (F := Ideal) m c main_v0 = m ((c : Thread nD τ).loc main_arg2) := by
  show StableHlo.after hostOps0 _ (Proc.devRef .tc main_v0) = _
  after_results
  rfl
theorem V_w3 : V (F := Ideal) m c main_v1 = m ((c : Thread nD τ).loc main_arg3) := by
  show StableHlo.after hostOps0 _ (Proc.devRef .tc main_v1) = _
  after_results
  rfl
theorem V_w2 : V (F := Ideal) m c main_v2 = m ((c : Thread nD τ).loc main_arg4) := by
  show StableHlo.after hostOps0 _ (Proc.devRef .tc main_v2) = _
  after_results
  rfl

theorem g_blk (t : Fin cfg0.N) (k : Fin 1024) : gB m c t (ix2 0 k) = g m c k := by
  blk_simp [gB, iblk]
  refine Eq.trans (congrArg _ ?_) (V_gain m c k)
  funext a
  refine Fin.ext ?_
  fin_cases a
  · blk_simp [(places t).2.1.1]
  · blk_simp [(places t).2.1.2]

theorem w1_blk (t : Fin cfg0.N) (f : Fin 512) (k : Fin 1024) : w1B m c t (ix2 k f) = w1 m c (unitIx t f) k := by
  blk_simp [w1B, iblk]
  unfold w1
  refine (congrFun (V_w1 m c) _).trans (congrArg _ ?_)
  funext a
  refine Fin.ext ?_
  fin_cases a
  · blk_simp [(places t).2.2.1.1]
    rfl
  · blk_simp [(places t).2.2.1.2]
    rfl

theorem w3_blk (t : Fin cfg0.N) (f : Fin 512) (k : Fin 1024) : w3B m c t (ix2 k f) = w3 m c (unitIx t f) k := by
  blk_simp [w3B, iblk]
  unfold w3
  refine (congrFun (V_w3 m c) _).trans (congrArg _ ?_)
  funext a
  refine Fin.ext ?_
  fin_cases a
  · blk_simp [(places t).2.2.2.1.1]
    rfl
  · blk_simp [(places t).2.2.2.1.2]
    rfl

theorem w2_blk (t : Fin cfg0.N) (f : Fin 512) (k : Fin 1024) : w2B m c t (ix2 f k) = w2 m c (unitIx t f) k := by
  blk_simp [w2B, iblk]
  unfold w2
  refine (congrFun (V_w2 m c) _).trans (congrArg _ ?_)
  funext a
  refine Fin.ext ?_
  fin_cases a
  · blk_simp [(places t).2.2.2.2.1]
    rfl
  · blk_simp [(places t).2.2.2.2.2]
    rfl

/-- A point adds its block's units. -/
theorem added (t : Fin cfg0.N) (v : FVec Ideal S1024x1024 .bf16) (o : FVec Ideal S1024x1024 .f32) (r k : Fin 1024)
    (hv : ∀ q, v (ix2 r q) = norm (x m c (rowIx t r)) (g m c) q) (ho : o (ix2 r k) = x m c (rowIx t r) k + ∑ q ∈ range (t.val % 7 * 512), unitAt m c (rowIx t r) k q) :
    k0_pay2 (F := Ideal) v (w1B m c t) (w3B m c t) o (w2B m c t) (ix2 r k) = x m c (rowIx t r) k + ∑ q ∈ range ((t.val % 7 + 1) * 512), unitAt m c (rowIx t r) k q := by
  rw [added_at, ho, add_assoc, Nat.succ_mul, Finset.sum_range_add, Finset.sum_range (n := 512)]
  refine congrArg _ (congrArg _ (Finset.sum_congr rfl fun f _ => ?_))
  have hf := f.isLt
  unfold unitAt
  rw [dif_pos (by omega), w2_blk, show (fun q => v (ix2 r q)) = norm (x m c (rowIx t r)) (g m c) from funext hv,
    show (fun q => w1B m c t (ix2 q f)) = w1 m c (unitIx t f) from funext fun q => w1_blk m c t f q,
    show (fun q => w3B m c t (ix2 q f)) = w3 m c (unitIx t f) from funext fun q => w3_blk m c t f q]
  rfl

theorem normed (t : Fin cfg0.N) (r q : Fin 1024) : k0_pay1 (F := Ideal) (xB m c t) (gB m c t) (ix2 r q) = norm (x m c (rowIx t r)) (g m c) q := by
  rw [normed_at, show (fun q => xB m c t (ix2 r q)) = x m c (rowIx t r) from funext fun q => x_blk m c t r q,
    show (fun q => gB m c t (ix2 0 q)) = g m c from funext fun q => g_blk m c t q]

theorem first (t : Fin cfg0.N) (h : t.val % 7 = 0) : outsAt0 m c t.val t.isLt = (k0_pay2 (F := Ideal) (k0_pay1 (F := Ideal) (xB m c t) (gB m c t)) (w1B m c t) (w3B m c t) (xB m c t) (w2B m c t), k0_pay1 (F := Ideal) (xB m c t) (gB m c t)) := by
  rw [outsAt0_A m c t h]
  refine Prod.ext ?_ ?_
  · dsimp only
    frame_out
  · dsimp only
    frame_out

theorem next (t : Fin cfg0.N) (h : ¬ t.val % 7 = 0) (p : FVec Ideal S1024x1024 .f32 × FVec Ideal S1024x1024 .bf16) (hp : outsAt0 m c (t.val - 1) (Nat.lt_of_le_of_lt (Nat.sub_le _ _) t.isLt) = p) :
    outsAt0 m c t.val t.isLt = (k0_pay2 (F := Ideal) p.2 (w1B m c t) (w3B m c t) p.1 (w2B m c t), p.2) := by
  rw [outsAt0_B m c t h, hp]
  refine Prod.ext ?_ ?_
  · dsimp only
    frame_out
    simp only [read_unread_whole]
  · rfl

/-- After a point: the normed tile, and the residual with the units so far. -/
theorem after (n : ℕ) : ∀ (hn : n < cfg0.N) (r k : Fin 1024),
    (outsAt0 (F := Ideal) m c n hn).2 (ix2 r k) = norm (x m c (rowIx ⟨n, hn⟩ r)) (g m c) k
    ∧ (outsAt0 (F := Ideal) m c n hn).1 (ix2 r k) = x m c (rowIx ⟨n, hn⟩ r) k + ∑ q ∈ range ((n % 7 + 1) * 512), unitAt m c (rowIx ⟨n, hn⟩ r) k q := by
  induction n with
  | zero =>
    intro hn r k
    rw [first m c ⟨0, hn⟩ rfl]
    refine ⟨normed m c _ r k, added m c ⟨0, hn⟩ _ _ r k (normed m c _ r) ((x_blk m c _ r k).trans ?_)⟩
    simp
  | succ n ih =>
    intro hn r k
    by_cases h : (n + 1) % 7 = 0
    · rw [first m c ⟨n + 1, hn⟩ h]
      refine ⟨normed m c _ r k, added m c ⟨n + 1, hn⟩ _ _ r k (normed m c _ r) ((x_blk m c _ r k).trans ?_)⟩
      simp [h]
    · have hn' : n < cfg0.N := Nat.lt_of_succ_lt hn
      have hr : rowIx ⟨n + 1, hn⟩ r = rowIx ⟨n, hn'⟩ r := Fin.ext (by show (n + 1) / 7 * 1024 + r.val = n / 7 * 1024 + r.val; omega)
      have hm : (n + 1) % 7 = n % 7 + 1 := by omega
      rw [next m c ⟨n + 1, hn⟩ h _ rfl]
      refine ⟨hr ▸ (ih hn' r k).1, added m c ⟨n + 1, hn⟩ _ _ r k (fun q => hr ▸ (ih hn' r q).1) ?_⟩
      rw [hr]
      show _ = _ + ∑ q ∈ range ((n + 1) % 7 * 512), _
      rw [hm]
      exact (ih hn' r k).2

/-- The result, element by element. -/
def out (R : Fin 65536) (k : Fin 1024) : EReal := x m c R k + ∑ f : Fin 3584, hid (norm (x m c R) (g m c)) (w1 m c f) (w3 m c f) * w2 m c f k

theorem final (R : Fin 65536) (k : Fin 1024) : G5 (F := Ideal) m c (ix2 R k) = out m c R k := by
  have hR := R.isLt
  have hk := k.isLt
  have hp : pt5Of (ix2 R k) = 7 * (R.val / 1024) + 6 := by
    show 7 * (1 * (R.val / 1024 - 0) + 1 * (k.val / 1024 - 0)) + 6 = _
    omega
  have hN : pt5Of (ix2 R k) < cfg0.N := lt_of_lt_of_eq (by omega) N_0.symm
  refine (dif_pos hN).trans ((congrFun (congrArg Prod.fst (outsAt0_sweep m c _ hN).symm) _).trans ?_)
  have hl : loc5Of (ix2 R k) = ix2 (⟨R.val % 1024, by omega⟩ : Fin 1024) k := by
    funext a
    fin_cases a
    · rfl
    · exact Fin.ext (Nat.mod_eq_of_lt hk)
  rw [hl, (after m c _ hN _ k).2]
  have hr : rowIx ⟨pt5Of (ix2 R k), hN⟩ (⟨R.val % 1024, by omega⟩ : Fin 1024) = R := Fin.ext (by show pt5Of (ix2 R k) / 7 * 1024 + R.val % 1024 = R.val; omega)
  rw [hr, show (pt5Of (ix2 R k) % 7 + 1) * 512 = 3584 by omega, Finset.sum_range]
  refine congrArg _ (Finset.sum_congr rfl fun f _ => ?_)
  unfold unitAt
  rw [dif_pos f.isLt]

end Cert.Kernel2Ideal.Ffn

end
-- ==== Proof.FfnEqual.lean ====
/- The dense feed-forward call's result is its reference's. -/
module

public import proofs.«01_k».proof.Proof.Ffn
public import proofs.«01_k».proof.Proof.Gen.Reference2Ideal.Run
public import Idealize.ShloMosaic.Lib.Pointwise

@[expose] public section

set_option maxRecDepth 16384
noncomputable section

namespace Cert.Reference2Ideal.Ffn

open Cert.Reference2Ideal Cert.Reference2Ideal.Gen
open Idealize.ShloMosaic Idealize.ShloMosaic.TcCoe
open Cert.KernelIdeal.Route (norm)
open Cert.KernelIdeal.Moe (hid)

variable (X : FVec Ideal S65536x1024 .f32) (G : FVec Ideal S1024 .f32) (A B : FVec Ideal S1024x3584 .f32) (D : FVec Ideal S3584x1024 .f32)

/-- The reference's normed rows. -/
def normed : FVec Ideal S65536x1024 .f32 :=
  mulf (mulf X (broadcastInDim S65536x1024 ![0, 1] bcast_S65536x1_S65536x1024_0_1 (Host.rsqrt (addf (Host.divf (broadcastInDim S65536x1 ![0] bcast_S65536_S65536x1_0 (Host.reduceAdd (mulf X X) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 G))

theorem normed_at (R : Fin 65536) (k : Fin 1024) : normed X G (ix2 R k) = norm (fun k => X (ix2 R k)) (fun k => G (Idealize.ShloMosaic.ix1 k)) k := by
  unfold normed
  pointwise
  rfl

/-- A projection of rows to the hidden units. -/
def proj (N : FVec Ideal S65536x1024 .f32) (W : FVec Ideal S1024x3584 .f32) : FVec Ideal S65536x3584 .f32 :=
  Host.dotGeneral (φ₁ := .f32) (φ₂ := .f32) dot_S65536x1024_S1024x3584_S65536x3584_1_0_0_1_n_n none N W

/-- The reference's result over normed rows. -/
def res (N : FVec Ideal S65536x1024 .f32) : FVec Ideal S65536x1024 .f32 :=
  addf X (Host.dotGeneral (φ₁ := .f32) (φ₂ := .f32) dot_S65536x3584_S3584x1024_S65536x1024_1_0_0_1_n_n none
    (mulf (mulf (proj N A) (Host.divf (broadcastInDim S65536x3584 ![] bcast_S_S65536x3584 (constant S_ .f32 0x3F800000#32)) (addf (broadcastInDim S65536x3584 ![] bcast_S_S65536x3584 (constant S_ .f32 0x3F800000#32)) (Host.exp (Host.negf (proj N A)))))) (proj N B)) D)

theorem res_at (N : FVec Ideal S65536x1024 .f32) (R : Fin 65536) (k : Fin 1024) :
    res X A B D N (ix2 R k) = X (ix2 R k) + ∑ f : Fin 3584, hid (fun k => N (ix2 R k)) (fun k => A (ix2 k f)) (fun k => B (ix2 k f)) * D (ix2 f k) := by
  unfold res proj
  pointwise
  rfl

variable {X G A B D}
variable {m : (ℓ : Loc Cert.Kernel2Ideal.nD Cert.Kernel2Ideal.τ Cert.Kernel2Ideal.sig) → Buf (Elt Ideal) ℓ} {c : Dev Cert.Kernel2Ideal.nD}

theorem res_eq (hX : X = m ((c : Thread Cert.Kernel2Ideal.nD Cert.Kernel2Ideal.τ).loc Cert.Kernel2Ideal.main_arg0)) (hG : G = m ((c : Thread Cert.Kernel2Ideal.nD Cert.Kernel2Ideal.τ).loc Cert.Kernel2Ideal.main_arg1))
    (hA : A = m ((c : Thread Cert.Kernel2Ideal.nD Cert.Kernel2Ideal.τ).loc Cert.Kernel2Ideal.main_arg2)) (hB : B = m ((c : Thread Cert.Kernel2Ideal.nD Cert.Kernel2Ideal.τ).loc Cert.Kernel2Ideal.main_arg3))
    (hD : D = m ((c : Thread Cert.Kernel2Ideal.nD Cert.Kernel2Ideal.τ).loc Cert.Kernel2Ideal.main_arg4)) :
    res X A B D (normed X G) = Cert.Kernel2Ideal.Value.G5 (F := Ideal) m c := by
  have key (R : Fin 65536) (k : Fin 1024) : res X A B D (normed X G) (ix2 R k) = Cert.Kernel2Ideal.Value.G5 (F := Ideal) m c (ix2 R k) := by
    rw [res_at, Cert.Kernel2Ideal.Ffn.final, show (fun k => normed X G (ix2 R k)) = norm (fun k => X (ix2 R k)) (fun k => G (Idealize.ShloMosaic.ix1 k)) from funext fun k => normed_at X G R k]
    subst hX hG hA hB hD
    rfl
  funext y
  have hy : y = ix2 (y 0 : Fin 65536) (y 1 : Fin 1024) := by
    funext a
    match a with
    | ⟨0, _⟩ => rfl
    | ⟨1, _⟩ => rfl
  exact (congrArg (res X A B D (normed X G)) hy).trans ((key (y 0) (y 1)).trans (congrArg (Cert.Kernel2Ideal.Value.G5 (F := Ideal) m c) hy).symm)

end Cert.Reference2Ideal.Ffn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Run
public import proofs.«01_k».proof.Proof.Printed
public import proofs.«01_k».proof.Proof.Equal
public import proofs.«01_k».proof.Proof.Gen.Kernel2
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.FfnPrinted
public import proofs.«01_k».proof.Proof.FfnEqual
public import Idealize.ShloMosaic.Adequacy
public import Idealize.ShloMosaic.Init

@[expose] public section

noncomputable section

namespace Cert.Proof

open Idealize.ShloMosaic Idealize.SL.Sem

set_option maxRecDepth 16384 in
set_option maxHeartbeats 4000000 in
/-- The kernel as printed runs, keeps its arguments and ends with every counter at zero. -/
theorem frame_kernel : Cert.quiescent_Kernel := by
  intro m ρ _
  rw [show Cert.Kernel.main (F := Bits) = Cert.KernelIdeal.Moe.mainOf (F := Bits) Cert.Kernel.pcfgs from Cert.KernelIdeal.Moe.main_printed]
  exact (θ_run (Cert.Kernel.defs (F := Bits)) _ _).mono (fun _ h => ⟨fun c => (h.1 c).2, h.2⟩) (Cert.KernelIdeal.Moe.run_printed (F := Bits) m ρ)

/-- So does the idealized kernel. -/
theorem frame_ideal : Cert.quiescent_KernelIdeal := fun m ρ _ =>
  (θ_run Cert.KernelIdeal.defs _ _).mono (fun _ h => ⟨fun c => (h.1 c).2, h.2⟩) (Cert.KernelIdeal.Moe.run_main (F := Ideal) m ρ)

/-- So does the reference. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- From the same arguments, of finite weights, the idealized kernel ends with the reference's result. -/
theorem same_result : Cert.algebraic_KernelIdeal_ReferenceIdeal_pre_finite_weights (hPre_finite_weights := Cert.Finite.facts) := by
  haveI := Cert.Finite.facts
  intro m g m' g' hpre hm
  refine ⟨fun c => Cert.KernelIdeal.Moe.result m c, (θ_run Cert.KernelIdeal.defs _ _).mono (fun _ h => h.1) (Cert.KernelIdeal.Moe.run_main (F := Ideal) m g), ?_⟩
  refine (θ_run Cert.ReferenceIdeal.defs _ _).mono (fun r h c => ⟨(h c).1.trans ?_, (h c).2⟩) (Cert.ReferenceIdeal.Value.run (F := Ideal) m' g')
  obtain ⟨h0, h1, h2, h3, h4, h5⟩ := hm c
  obtain ⟨hg, hr⟩ := Cert.Finite.weights (hpre c)
  exact Cert.Equal.total_eq (V := StableHlo.launchContents m' c) ⟨h0, h1, h2, h3, h4, h5⟩ hg hr

set_option maxRecDepth 16384 in
set_option maxHeartbeats 4000000 in
/-- The dense feed-forward call as printed. -/
theorem frame_ffn : Cert.quiescent_Kernel2 := by
  intro m ρ _
  rw [show Cert.Kernel2.main (F := Bits) = Cert.Kernel2Ideal.Ffn.mainOf (F := Bits) Cert.Kernel2.pcfgs from Cert.Kernel2Ideal.Ffn.main_printed]
  exact Cert.Kernel2Ideal.Ffn.run_printed (F := Bits) m ρ

/-- Idealized too. -/
theorem frame_ffn_ideal : Cert.quiescent_Kernel2Ideal := fun m ρ _ => Cert.Kernel2Ideal.Gen.frame (F := Ideal) m ρ

/-- And its reference. -/
theorem frame_ffn_reference : Cert.quiescent_Reference2Ideal := fun m ρ _ =>
  (θ_run Cert.Reference2Ideal.defs _ _).mono
    (fun r h => ⟨fun c => (h c).2, Idealize.ShloMosaic.sem_eq_zero_of_no_sems (by decide) r.2⟩)
    (Cert.Reference2Ideal.Value.run (F := Ideal) m ρ)

/-- From the same arguments, the idealized feed-forward call ends with its reference's result. -/
theorem same_ffn : Cert.algebraic_Kernel2Ideal_Reference2Ideal := by
  intro m g m' g' _ hm
  refine ⟨fun c => Cert.Kernel2Ideal.Value.G5 (F := Ideal) m c, Cert.Kernel2Ideal.Value.run (F := Ideal) m g, ?_⟩
  refine (θ_run Cert.Reference2Ideal.defs _ _).mono (fun r h c => ⟨(h c).1.trans ?_, (h c).2⟩) (Cert.Reference2Ideal.Value.run (F := Ideal) m' g')
  obtain ⟨h0, h1, h2, h3, h4⟩ := hm c
  exact Cert.Reference2Ideal.Ffn.res_eq h0 h1 h2 h3 h4

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Finite.facts,
    frame_kernel, frame_ideal, fun m g _ => frame_ideal m g trivial, frame_reference, fun m g _ => frame_reference m g trivial, frame_ffn, frame_ffn_ideal, frame_ffn_reference,
    trivial, same_result, trivial, same_ffn⟩

end Cert.Proof

end
